-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_out_even_finite [hPre_out_even_finite : Cert.Pre_out_even_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_out_even_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 = (fun _ => 1#1)
    ∧ (Cert.Pre_out_even_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 = (fun _ => 1#1)
    ∧ (Cert.Pre_out_even_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 = (fun _ => 1#1)
    ∧ (Cert.Pre_out_even_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.1 = (fun _ => 1#1)
    ∧ (Cert.Pre_out_even_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_out_even_finite [hPre_out_even_finite : Cert.Pre_out_even_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_out_even_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).1 = (fun _ => 1#1)
    ∧ (Cert.Pre_out_even_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.1 = (fun _ => 1#1)
    ∧ (Cert.Pre_out_even_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.1 = (fun _ => 1#1)
    ∧ (Cert.Pre_out_even_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.1 = (fun _ => 1#1)
    ∧ (Cert.Pre_out_even_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_out_odd_finite [hPre_out_odd_finite : Cert.Pre_out_odd_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_out_odd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).1 = (fun _ => 1#1)
    ∧ (Cert.Pre_out_odd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.1 = (fun _ => 1#1)
    ∧ (Cert.Pre_out_odd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.1 = (fun _ => 1#1)
    ∧ (Cert.Pre_out_odd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.1 = (fun _ => 1#1)
    ∧ (Cert.Pre_out_odd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_out_odd_finite [hPre_out_odd_finite : Cert.Pre_out_odd_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_out_odd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).1 = (fun _ => 1#1)
    ∧ (Cert.Pre_out_odd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).2.1 = (fun _ => 1#1)
    ∧ (Cert.Pre_out_odd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).2.2.1 = (fun _ => 1#1)
    ∧ (Cert.Pre_out_odd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).2.2.2.1 = (fun _ => 1#1)
    ∧ (Cert.Pre_out_odd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_out_even_finite [hKernel4Ideal : Cert.Kernel4Ideal.Facts] [hPre_out_even_finite : Cert.Pre_out_even_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_out_even_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_out_even_finite [hReference4Ideal : Cert.Reference4Ideal.Facts] [hPre_out_even_finite : Cert.Pre_out_even_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_out_even_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Kernel5Ideal_pre_out_odd_finite [hKernel5Ideal : Cert.Kernel5Ideal.Facts] [hPre_out_odd_finite : Cert.Pre_out_odd_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_out_odd_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Reference5Ideal_pre_out_odd_finite [hReference5Ideal : Cert.Reference5Ideal.Facts] [hPre_out_odd_finite : Cert.Pre_out_odd_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_out_odd_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_out_even_finite [hKernel4Ideal : Cert.Kernel4Ideal.Facts] [hReference4Ideal : Cert.Reference4Ideal.Facts] [hPre_out_even_finite : Cert.Pre_out_even_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_out_even_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v37_1)) (v2 : (c : Dev Cert.Kernel4Ideal.nD) → Buf (Elt Ideal) ((c.tc : Thread Cert.Kernel4Ideal.nD Cert.Kernel4Ideal.τ).loc Cert.Kernel4Ideal.main_v37_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v37_1) = v1 c
          ∧ r.2.mem ((c.tc : Thread Cert.Kernel4Ideal.nD Cert.Kernel4Ideal.τ).loc Cert.Kernel4Ideal.main_v37_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal_pre_out_odd_finite [hKernel5Ideal : Cert.Kernel5Ideal.Facts] [hReference5Ideal : Cert.Reference5Ideal.Facts] [hPre_out_odd_finite : Cert.Pre_out_odd_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_out_odd_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v37_0)) (v1 : (c : Dev Cert.Kernel5Ideal.nD) → Buf (Elt Ideal) ((c.tc : Thread Cert.Kernel5Ideal.nD Cert.Kernel5Ideal.τ).loc Cert.Kernel5Ideal.main_v37_1)) (v2 : (c : Dev Cert.Kernel5Ideal.nD) → Buf (Elt Ideal) ((c.tc : Thread Cert.Kernel5Ideal.nD Cert.Kernel5Ideal.τ).loc Cert.Kernel5Ideal.main_v37_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v37_0) = v0 c
          ∧ r.2.mem ((c.tc : Thread Cert.Kernel5Ideal.nD Cert.Kernel5Ideal.τ).loc Cert.Kernel5Ideal.main_v37_1) = v1 c
          ∧ r.2.mem ((c.tc : Thread Cert.Kernel5Ideal.nD Cert.Kernel5Ideal.τ).loc Cert.Kernel5Ideal.main_v37_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v85) = v0 c
          ∧ r.2.mem ((c.tc : Thread Cert.Reference5Ideal.nD Cert.Reference5Ideal.τ).loc Cert.Reference5Ideal.main_v65) = v1 c
          ∧ r.2.mem ((c.tc : Thread Cert.Reference5Ideal.nD Cert.Reference5Ideal.τ).loc Cert.Reference5Ideal.main_v83) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_out_even_finite : Cert.Pre_out_even_finite.Facts) (hPre_out_odd_finite : Cert.Pre_out_odd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_out_even_finite (hKernel4Ideal := hKernel4Ideal) (hPre_out_even_finite := hPre_out_even_finite)
    ∧ quiescent_Reference4Ideal (hReference4Ideal := hReference4Ideal)
    ∧ quiescent_Reference4Ideal_pre_out_even_finite (hReference4Ideal := hReference4Ideal) (hPre_out_even_finite := hPre_out_even_finite)
    ∧ quiescent_Kernel5 (hKernel5 := hKernel5)
    ∧ quiescent_Kernel5Ideal (hKernel5Ideal := hKernel5Ideal)
    ∧ quiescent_Kernel5Ideal_pre_out_odd_finite (hKernel5Ideal := hKernel5Ideal) (hPre_out_odd_finite := hPre_out_odd_finite)
    ∧ quiescent_Reference5Ideal (hReference5Ideal := hReference5Ideal)
    ∧ quiescent_Reference5Ideal_pre_out_odd_finite (hReference5Ideal := hReference5Ideal) (hPre_out_odd_finite := hPre_out_odd_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_out_even_finite (hKernel4Ideal := hKernel4Ideal) (hReference4Ideal := hReference4Ideal) (hPre_out_even_finite := hPre_out_even_finite)
    ∧ preserves_Kernel5_Kernel5Ideal
    ∧ algebraic_Kernel5Ideal_Reference5Ideal_pre_out_odd_finite (hKernel5Ideal := hKernel5Ideal) (hReference5Ideal := hReference5Ideal) (hPre_out_odd_finite := hPre_out_odd_finite)
-- ==== Pre_finite.lean ====
abbrev S18432x8192 : Shape := ⟨2, ![18432, 8192]⟩
abbrev S1x4x64 : Shape := ⟨3, ![1, 4, 64]⟩
abbrev S_ : Shape := ⟨0, ![]⟩

class Facts : Prop where
  bitsLt_bf16_f32 : FTy.bits .bf16 < FTy.bits .f32
  bcast_S_S18432x8192 : S_.BroadcastsInDim S18432x8192 (![] : Fin 0 → Fin S18432x8192.rank)

variable [Facts]

def fn {F : FTy → Type} [FloatOps F] (main_arg0 : FVec F S18432x8192 .bf16) (main_arg1 : FVec F S1x4x64 .f32) : IVec S18432x8192 1 :=
  let main_v0 : FVec F S18432x8192 .f32 := (extf .f32 · bitsLt_bf16_f32) main_arg0
  let main_v1 : FVec F S18432x8192 .f32 := Host.absf main_v0
  let main_cst : FVec F S_ .f32 := constant S_ .f32 0x7F800000#32
  let main_v2 : FVec F S18432x8192 .f32 := broadcastInDim S18432x8192 ![] bcast_S_S18432x8192 main_cst
  let main_v3 : IVec S18432x8192 1 := cmpf .olt main_v1 main_v2
  main_v3
-- ==== Pre_out_even_finite.lean ====
abbrev S18432x1024 : Shape := ⟨2, ![18432, 1024]⟩
abbrev S18432x2048 : Shape := ⟨2, ![18432, 2048]⟩
abbrev S1x3072x2048 : Shape := ⟨3, ![1, 3072, 2048]⟩
abbrev S9x1x2048 : Shape := ⟨3, ![9, 1, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S_ : Shape := ⟨0, ![]⟩

class Facts : Prop where
  bcast_S_S9x1x2048 : S_.BroadcastsInDim S9x1x2048 (![] : Fin 0 → Fin S9x1x2048.rank)
  bcast_S_S2x2048 : S_.BroadcastsInDim S2x2048 (![] : Fin 0 → Fin S2x2048.rank)
  bcast_S_S2x2048x4 : S_.BroadcastsInDim S2x2048x4 (![] : Fin 0 → Fin S2x2048x4.rank)
  bcast_S_S2x2048x32 : S_.BroadcastsInDim S2x2048x32 (![] : Fin 0 → Fin S2x2048x32.rank)

variable [Facts]

def fn {F : FTy → Type} [FloatOps F] (main_arg0 : FVec F S18432x1024 .bf16) (main_arg1 : FVec F S18432x2048 .bf16) (main_arg2 : FVec F S1x3072x2048 .f32) (main_arg3 : FVec F S18432x2048 .f32) (main_arg4 : FVec F S9x1x2048 .f32) (main_arg5 : FVec F S9x1x2048 .f32) (main_arg6 : FVec F S9x1x2048 .f32) (main_arg7 : FVec F S2x2048 .f32) (main_arg8 : FVec F S2x2048x4 .f32) (main_arg9 : FVec F S2x4 .f32) (main_arg10 : FVec F S2x2048x32 .f32) (main_arg11 : FVec F S2x32 .f32) : IVec S9x1x2048 1 × IVec S9x1x2048 1 × IVec S2x2048 1 × IVec S2x2048x4 1 × IVec S2x2048x32 1 :=
  let main_v0 : FVec F S9x1x2048 .f32 := Host.absf main_arg5
  let main_cst : FVec F S_ .f32 := constant S_ .f32 0x7F800000#32
  let main_v1 : FVec F S9x1x2048 .f32 := broadcastInDim S9x1x2048 ![] bcast_S_S9x1x2048 main_cst
  let main_v2 : IVec S9x1x2048 1 := cmpf .olt main_v0 main_v1
  let main_v3 : FVec F S9x1x2048 .f32 := Host.absf main_arg6
  let main_cst_0 : FVec F S_ .f32 := constant S_ .f32 0x7F800000#32
  let main_v4 : FVec F S9x1x2048 .f32 := broadcastInDim S9x1x2048 ![] bcast_S_S9x1x2048 main_cst_0
  let main_v5 : IVec S9x1x2048 1 := cmpf .olt main_v3 main_v4
  let main_v6 : FVec F S2x2048 .f32 := Host.absf main_arg7
  let main_cst_1 : FVec F S_ .f32 := constant S_ .f32 0x7F800000#32
  let main_v7 : FVec F S2x2048 .f32 := broadcastInDim S2x2048 ![] bcast_S_S2x2048 main_cst_1
  let main_v8 : IVec S2x2048 1 := cmpf .olt main_v6 main_v7
  let main_v9 : FVec F S2x2048x4 .f32 := Host.absf main_arg8
  let main_cst_2 : FVec F S_ .f32 := constant S_ .f32 0x7F800000#32
  let main_v10 : FVec F S2x2048x4 .f32 := broadcastInDim S2x2048x4 ![] bcast_S_S2x2048x4 main_cst_2
  let main_v11 : IVec S2x2048x4 1 := cmpf .olt main_v9 main_v10
  let main_v12 : FVec F S2x2048x32 .f32 := Host.absf main_arg10
  let main_cst_3 : FVec F S_ .f32 := constant S_ .f32 0x7F800000#32
  let main_v13 : FVec F S2x2048x32 .f32 := broadcastInDim S2x2048x32 ![] bcast_S_S2x2048x32 main_cst_3
  let main_v14 : IVec S2x2048x32 1 := cmpf .olt main_v12 main_v13
  (main_v2, main_v5, main_v8, main_v11, main_v14)
-- ==== Pre_out_odd_finite.lean ====
abbrev S18432x1024 : Shape := ⟨2, ![18432, 1024]⟩
abbrev S1x2048x2048 : Shape := ⟨3, ![1, 2048, 2048]⟩
abbrev S18432x2048 : Shape := ⟨2, ![18432, 2048]⟩
abbrev S9x1x2048 : Shape := ⟨3, ![9, 1, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S_ : Shape := ⟨0, ![]⟩

class Facts : Prop where
  bcast_S_S9x1x2048 : S_.BroadcastsInDim S9x1x2048 (![] : Fin 0 → Fin S9x1x2048.rank)
  bcast_S_S2x2048 : S_.BroadcastsInDim S2x2048 (![] : Fin 0 → Fin S2x2048.rank)
  bcast_S_S2x2048x4 : S_.BroadcastsInDim S2x2048x4 (![] : Fin 0 → Fin S2x2048x4.rank)
  bcast_S_S2x2048x32 : S_.BroadcastsInDim S2x2048x32 (![] : Fin 0 → Fin S2x2048x32.rank)

variable [Facts]

def fn {F : FTy → Type} [FloatOps F] (main_arg0 : FVec F S18432x1024 .bf16) (main_arg1 : FVec F S18432x1024 .bf16) (main_arg2 : FVec F S1x2048x2048 .f32) (main_arg3 : FVec F S18432x2048 .f32) (main_arg4 : FVec F S9x1x2048 .f32) (main_arg5 : FVec F S9x1x2048 .f32) (main_arg6 : FVec F S9x1x2048 .f32) (main_arg7 : FVec F S2x2048 .f32) (main_arg8 : FVec F S2x2048x4 .f32) (main_arg9 : FVec F S2x4 .f32) (main_arg10 : FVec F S2x2048x32 .f32) (main_arg11 : FVec F S2x32 .f32) : IVec S9x1x2048 1 × IVec S9x1x2048 1 × IVec S2x2048 1 × IVec S2x2048x4 1 × IVec S2x2048x32 1 :=
  let main_v0 : FVec F S9x1x2048 .f32 := Host.absf main_arg5
  let main_cst : FVec F S_ .f32 := constant S_ .f32 0x7F800000#32
  let main_v1 : FVec F S9x1x2048 .f32 := broadcastInDim S9x1x2048 ![] bcast_S_S9x1x2048 main_cst
  let main_v2 : IVec S9x1x2048 1 := cmpf .olt main_v0 main_v1
  let main_v3 : FVec F S9x1x2048 .f32 := Host.absf main_arg6
  let main_cst_0 : FVec F S_ .f32 := constant S_ .f32 0x7F800000#32
  let main_v4 : FVec F S9x1x2048 .f32 := broadcastInDim S9x1x2048 ![] bcast_S_S9x1x2048 main_cst_0
  let main_v5 : IVec S9x1x2048 1 := cmpf .olt main_v3 main_v4
  let main_v6 : FVec F S2x2048 .f32 := Host.absf main_arg7
  let main_cst_1 : FVec F S_ .f32 := constant S_ .f32 0x7F800000#32
  let main_v7 : FVec F S2x2048 .f32 := broadcastInDim S2x2048 ![] bcast_S_S2x2048 main_cst_1
  let main_v8 : IVec S2x2048 1 := cmpf .olt main_v6 main_v7
  let main_v9 : FVec F S2x2048x4 .f32 := Host.absf main_arg8
  let main_cst_2 : FVec F S_ .f32 := constant S_ .f32 0x7F800000#32
  let main_v10 : FVec F S2x2048x4 .f32 := broadcastInDim S2x2048x4 ![] bcast_S_S2x2048x4 main_cst_2
  let main_v11 : IVec S2x2048x4 1 := cmpf .olt main_v9 main_v10
  let main_v12 : FVec F S2x2048x32 .f32 := Host.absf main_arg10
  let main_cst_3 : FVec F S_ .f32 := constant S_ .f32 0x7F800000#32
  let main_v13 : FVec F S2x2048x32 .f32 := broadcastInDim S2x2048x32 ![] bcast_S_S2x2048x32 main_cst_3
  let main_v14 : IVec S2x2048x32 1 := cmpf .olt main_v12 main_v13
  (main_v2, main_v5, main_v8, main_v11, main_v14)
-- ==== Kernel.lean ====
abbrev S18432x8192 : Shape := ⟨2, ![18432, 8192]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S16 : Shape := ⟨1, ![16]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x16 : Shape := ⟨3, ![1, 1, 16]⟩
abbrev S2048x2x16 : Shape := ⟨3, ![2048, 2, 16]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S256x128 : Shape := ⟨2, ![256, 128]⟩
abbrev S2304x128 : Shape := ⟨2, ![2304, 128]⟩
abbrev S1 : Shape := ⟨1, ![1]⟩
abbrev S18432x1024 : Shape := ⟨2, ![18432, 1024]⟩
abbrev S256x2304 : Shape := ⟨2, ![256, 2304]⟩
abbrev S256 : Shape := ⟨1, ![256]⟩
abbrev S256x1 : Shape := ⟨2, ![256, 1]⟩

abbrev nBuf : Space → Nat
  | .hbm => 103
  | .vmem => 16
  | .smem => 1
  | _ => 0

abbrev bufTy : (tb : Table) → Fin (tcTables nBuf tb) → BufTy
  | .hbm, ⟨0, _⟩ => ⟨S18432x8192, .bf16⟩
  | .hbm, ⟨1, _⟩ => ⟨S1x4x64, .f32⟩
  | .hbm, ⟨2, _⟩ => ⟨S4x64, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S2048, .i32⟩
  | .hbm, ⟨31, _⟩ => ⟨S_, .i32⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i1⟩
  | .hbm, ⟨63, _⟩ => ⟨S_, .i32⟩
  | .hbm, ⟨64, _⟩ => ⟨S_, .i1⟩
  | .hbm, ⟨65, _⟩ => ⟨S2048, .i1⟩
  | .hbm, ⟨66, _⟩ => ⟨S2048, .i1⟩
  | .hbm, ⟨67, _⟩ => ⟨S2048, .i1⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048x1, .i32⟩
  | .hbm, ⟨72, _⟩ => ⟨S2048x1, .i32⟩
  | .hbm, ⟨73, _⟩ => ⟨S2048x2, .i32⟩
  | .hbm, ⟨74, _⟩ => ⟨S2048x2, .f32⟩
  | .hbm, ⟨75, _⟩ => ⟨S2048x2x1, .f32⟩
  | .hbm, ⟨76, _⟩ => ⟨S1x1x16, .f32⟩
  | .hbm, ⟨77, _⟩ => ⟨S2048x2x16, .f32⟩
  | .hbm, ⟨78, _⟩ => ⟨S2048x2x16, .f32⟩
  | .hbm, ⟨79, _⟩ => ⟨S2048x2x16, .f32⟩
  | .hbm, ⟨80, _⟩ => ⟨S2048x2x16, .f32⟩
  | .hbm, ⟨81, _⟩ => ⟨S2048x2x1x16, .f32⟩
  | .hbm, ⟨82, _⟩ => ⟨S2048x2x16, .f32⟩
  | .hbm, ⟨83, _⟩ => ⟨S2048x2x1x16, .f32⟩
  | .hbm, ⟨84, _⟩ => ⟨S2048x2x2x16, .f32⟩
  | .hbm, ⟨85, _⟩ => ⟨S2048x64, .f32⟩
  | .hbm, ⟨86, _⟩ => ⟨S2048x2x1x16, .f32⟩
  | .hbm, ⟨87, _⟩ => ⟨S2048x2x2x16, .f32⟩
  | .hbm, ⟨88, _⟩ => ⟨S2048x64, .f32⟩
  | .hbm, ⟨89, _⟩ => ⟨S1x2048x1x64, .f32⟩
  | .hbm, ⟨90, _⟩ => ⟨S1x2048x2x64, .f32⟩
  | .hbm, ⟨91, _⟩ => ⟨S2048x128, .f32⟩
  | .hbm, ⟨92, _⟩ => ⟨S1x2048x1x64, .f32⟩
  | .hbm, ⟨93, _⟩ => ⟨S1x2048x2x64, .f32⟩
  | .hbm, ⟨94, _⟩ => ⟨S2048x128, .f32⟩
  | .hbm, ⟨95, _⟩ => ⟨S_, .f32⟩
  | .hbm, ⟨96, _⟩ => ⟨S256x128, .f32⟩
  | .hbm, ⟨97, _⟩ => ⟨S2304x128, .f32⟩
  | .hbm, ⟨98, _⟩ => ⟨S_, .f32⟩
  | .hbm, ⟨99, _⟩ => ⟨S256x128, .f32⟩
  | .hbm, ⟨100, _⟩ => ⟨S2304x128, .f32⟩
  | .hbm, ⟨101, _⟩ => ⟨S1, .f32⟩
  | .hbm, ⟨102, _⟩ => ⟨S18432x1024, .bf16⟩
  | .local _ .vmem, ⟨0, _⟩ => ⟨S256x128, .bf16⟩
  | .local _ .vmem, ⟨1, _⟩ => ⟨S256x128, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2304x128, .f32⟩
  | .local _ .vmem, ⟨11, _⟩ => ⟨S2304x128, .f32⟩
  | .local _ .vmem, ⟨12, _⟩ => ⟨S256x128, .bf16⟩
  | .local _ .vmem, ⟨13, _⟩ => ⟨S256x128, .bf16⟩
  | .local _ .vmem, ⟨14, _⟩ => ⟨S2304x128, .bf16⟩
  | .local _ .vmem, ⟨15, _⟩ => ⟨S2304x128, .bf16⟩
  | .local _ .smem, ⟨0, _⟩ => ⟨S1, .f32⟩
  | _, _ => ⟨S18432x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v24 : Ref sig .tc := ⟨.hbm, 48, rfl⟩
abbrev main_c_4 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_5 : Ref sig .tc := ⟨.hbm, 95, rfl⟩
abbrev main_v50 : Ref sig .tc := ⟨.hbm, 96, rfl⟩
abbrev main_v51 : Ref sig .tc := ⟨.hbm, 97, rfl⟩
abbrev main_cst_6 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 8, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S18432x8192 : Shape := ⟨2, ![18432, 8192]⟩
abbrev S1x4x64 : Shape := ⟨3, ![1, 4, 64]⟩
abbrev S8x2304x8192 : Shape := ⟨3, ![8, 2304, 8192]⟩
abbrev S8x256x8192 : Shape := ⟨3, ![8, 256, 8192]⟩
abbrev S8x2048x8192 : Shape := ⟨3, ![8, 2048, 8192]⟩
abbrev S8x2048x1024 : Shape := ⟨3, ![8, 2048, 1024]⟩
abbrev S8x256x1024 : Shape := ⟨3, ![8, 256, 1024]⟩
abbrev S16 : Shape := ⟨1, ![16]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x16 : Shape := ⟨3, ![1, 1, 16]⟩
abbrev S2048x2x16 : Shape := ⟨3, ![2048, 2, 16]⟩
abbrev S8x2048x8x2x64 : Shape := ⟨5, ![8, 2048, 8, 2, 64]⟩
abbrev S8x8x2x2048x64 : Shape := ⟨5, ![8, 8, 2, 2048, 64]⟩
abbrev S128x2048x2x2x16 : Shape := ⟨5, ![128, 2048, 2, 2, 16]⟩
abbrev S128x2048x2x1x16 : Shape := ⟨5, ![128, 2048, 2, 1, 16]⟩
abbrev S128x2048x2x16 : Shape := ⟨4, ![128, 2048, 2, 16]⟩
abbrev S1x2048x2x16 : Shape := ⟨4, ![1, 2048, 2, 16]⟩
abbrev S8x2048x8x128 : Shape := ⟨4, ![8, 2048, 8, 128]⟩
abbrev S8x8x2048x128 : Shape := ⟨4, ![8, 8, 2048, 128]⟩
abbrev S8x256x8x2x64 : Shape := ⟨5, ![8, 256, 8, 2, 64]⟩
abbrev S8x8x2x256x64 : Shape := ⟨5, ![8, 8, 2, 256, 64]⟩
abbrev S8x256x8x128 : Shape := ⟨4, ![8, 256, 8, 128]⟩
abbrev S8x8x256x128 : Shape := ⟨4, ![8, 8, 256, 128]⟩
abbrev S4x64 : Shape := ⟨2, ![4, 64]⟩
abbrev S1x64 : Shape := ⟨2, ![1, 64]⟩
abbrev S64 : Shape := ⟨1, ![64]⟩
abbrev S8x8x2x2304x64 : Shape := ⟨5, ![8, 8, 2, 2304, 64]⟩
abbrev S8x8x2304x128 : Shape := ⟨4, ![8, 8, 2304, 128]⟩
abbrev S8x8x2x2048x2304 : Shape := ⟨5, ![8, 8, 2, 2048, 2304]⟩
abbrev S8x8x2x2048 : Shape := ⟨4, ![8, 8, 2, 2048]⟩
abbrev S8x8x2x2048x1 : Shape := ⟨5, ![8, 8, 2, 2048, 1]⟩
abbrev S8x8x1x2048x2304 : Shape := ⟨5, ![8, 8, 1, 2048, 2304]⟩
abbrev S8x8x2048x2304 : Shape := ⟨4, ![8, 8, 2048, 2304]⟩
abbrev S8x8x2048 : Shape := ⟨3, ![8, 8, 2048]⟩
abbrev S8x8x2048x1 : Shape := ⟨4, ![8, 8, 2048, 1]⟩
abbrev S8x2304x1024 : Shape := ⟨3, ![8, 2304, 1024]⟩
abbrev S18432x1024 : Shape := ⟨2, ![18432, 1024]⟩

abbrev nBuf : Space → Nat
  | .hbm => 198
  | .vmem => 0
  | .smem => 0
  | _ => 0

abbrev hbmTy0_0 (i : Nat) : BufTy := match i % 128 with
  | 0 => ⟨S18432x8192, .bf16⟩
  | 1 => ⟨S1x4x64, .f32⟩
  | 2 => ⟨S18432x8192, .f32⟩
  | 3 => ⟨S8x2304x8192, .f32⟩
  | 4 => ⟨S8x256x8192, .f32⟩
  | 5 => ⟨S8x2048x8192, .f32⟩
  | 6 => ⟨S8x2048x1024, .f32⟩
  | 7 => ⟨S8x2048x1024, .f32⟩
  | 8 => ⟨S8x2048x1024, .f32⟩
  | 9 => ⟨S8x256x1024, .f32⟩
  | 10 => ⟨S8x256x1024, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S2048, .i32⟩
  | 20 => ⟨S_, .i32⟩
  | 21 => ⟨S_, .i32⟩
  | 22 => ⟨S2048, .i32⟩
  | 23 => ⟨S2048, .i32⟩
  | 24 => ⟨S2048, .i32⟩
  | 25 => ⟨S_, .i32⟩
  | 26 => ⟨S2048, .i32⟩
  | 27 => ⟨S2048, .i1⟩
  | 28 => ⟨S2048, .i32⟩
  | 29 => ⟨S2048, .i32⟩
  | 30 => ⟨S_, .i32⟩
  | 31 => ⟨S2048, .i32⟩
  | 32 => ⟨S2048, .i1⟩
  | 33 => ⟨S2048, .i1⟩
  | 34 => ⟨S_, .i32⟩
  | 35 => ⟨S2048, .i32⟩
  | 36 => ⟨S2048, .i32⟩
  | 37 => ⟨S2048, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i1⟩
  | 49 => ⟨S_, .i32⟩
  | 50 => ⟨S2048, .i32⟩
  | 51 => ⟨S2048, .i1⟩
  | 52 => ⟨S_, .i32⟩
  | 53 => ⟨S_, .i1⟩
  | 54 => ⟨S2048, .i1⟩
  | 55 => ⟨S2048, .i1⟩
  | 56 => ⟨S2048, .i1⟩
  | 57 => ⟨S2048, .i32⟩
  | 58 => ⟨S2048, .i32⟩
  | 59 => ⟨S2048, .i32⟩
  | 60 => ⟨S2048x1, .i32⟩
  | 61 => ⟨S2048x1, .i32⟩
  | 62 => ⟨S2048x2, .i32⟩
  | 63 => ⟨S2048x2, .f32⟩
  | 64 => ⟨S2048x2x1, .f32⟩
  | 65 => ⟨S1x1x16, .f32⟩
  | 66 => ⟨S2048x2x16, .f32⟩
  | 67 => ⟨S2048x2x16, .f32⟩
  | 68 => ⟨S2048x2x16, .f32⟩
  | 69 => ⟨S2048x2x16, .f32⟩
  | 70 => ⟨S2048x2x16, .f32⟩
  | 71 => ⟨S8x2048x8x2x64, .f32⟩
  | 72 => ⟨S8x8x2x2048x64, .f32⟩
  | 73 => ⟨S128x2048x2x2x16, .f32⟩
  | 74 => ⟨S128x2048x2x1x16, .f32⟩
  | 75 => ⟨S128x2048x2x16, .f32⟩
  | 76 => ⟨S128x2048x2x1x16, .f32⟩
  | 77 => ⟨S128x2048x2x16, .f32⟩
  | 78 => ⟨S1x2048x2x16, .f32⟩
  | 79 => ⟨S128x2048x2x16, .f32⟩
  | 80 => ⟨S128x2048x2x16, .f32⟩
  | 81 => ⟨S1x2048x2x16, .f32⟩
  | 82 => ⟨S128x2048x2x16, .f32⟩
  | 83 => ⟨S128x2048x2x16, .f32⟩
  | 84 => ⟨S128x2048x2x16, .f32⟩
  | 85 => ⟨S1x2048x2x16, .f32⟩
  | 86 => ⟨S128x2048x2x16, .f32⟩
  | 87 => ⟨S128x2048x2x16, .f32⟩
  | 88 => ⟨S1x2048x2x16, .f32⟩
  | 89 => ⟨S128x2048x2x16, .f32⟩
  | 90 => ⟨S128x2048x2x16, .f32⟩
  | 91 => ⟨S128x2048x2x16, .f32⟩
  | 92 => ⟨S128x2048x2x1x16, .f32⟩
  | 93 => ⟨S128x2048x2x1x16, .f32⟩
  | 94 => ⟨S128x2048x2x2x16, .f32⟩
  | 95 => ⟨S8x8x2x2048x64, .f32⟩
  | 96 => ⟨S_, .f32⟩
  | 97 => ⟨S8x8x2x2048x64, .f32⟩
  | 98 => ⟨S8x8x2x2048x64, .f32⟩
  | 99 => ⟨S8x2048x8x2x64, .f32⟩
  | 100 => ⟨S8x8x2x2048x64, .f32⟩
  | 101 => ⟨S128x2048x2x2x16, .f32⟩
  | 102 => ⟨S128x2048x2x1x16, .f32⟩
  | 103 => ⟨S128x2048x2x16, .f32⟩
  | 104 => ⟨S128x2048x2x1x16, .f32⟩
  | 105 => ⟨S128x2048x2x16, .f32⟩
  | 106 => ⟨S1x2048x2x16, .f32⟩
  | 107 => ⟨S128x2048x2x16, .f32⟩
  | 108 => ⟨S128x2048x2x16, .f32⟩
  | 109 => ⟨S1x2048x2x16, .f32⟩
  | 110 => ⟨S128x2048x2x16, .f32⟩
  | 111 => ⟨S128x2048x2x16, .f32⟩
  | 112 => ⟨S128x2048x2x16, .f32⟩
  | 113 => ⟨S1x2048x2x16, .f32⟩
  | 114 => ⟨S128x2048x2x16, .f32⟩
  | 115 => ⟨S128x2048x2x16, .f32⟩
  | 116 => ⟨S1x2048x2x16, .f32⟩
  | 117 => ⟨S128x2048x2x16, .f32⟩
  | 118 => ⟨S128x2048x2x16, .f32⟩
  | 119 => ⟨S128x2048x2x16, .f32⟩
  | 120 => ⟨S128x2048x2x1x16, .f32⟩
  | 121 => ⟨S128x2048x2x1x16, .f32⟩
  | 122 => ⟨S128x2048x2x2x16, .f32⟩
  | 123 => ⟨S8x8x2x2048x64, .f32⟩
  | 124 => ⟨S8x2048x8x128, .f32⟩
  | 125 => ⟨S8x8x2048x128, .f32⟩
  | 126 => ⟨S8x256x8x2x64, .f32⟩
  | 127 => ⟨S8x8x2x256x64, .f32⟩
  | _ => ⟨S18432x8192, .bf16⟩

abbrev hbmTy0_1 (i : Nat) : BufTy := match i % 128 with
  | 0 => ⟨S8x256x8x128, .f32⟩
  | 1 => ⟨S8x8x256x128, .f32⟩
  | 2 => ⟨S4x64, .f32⟩
  | 3 => ⟨S1x64, .f32⟩
  | 4 => ⟨S64, .f32⟩
  | 5 => ⟨S1x64, .f32⟩
  | 6 => ⟨S64, .f32⟩
  | 7 => ⟨S64, .f32⟩
  | 8 => ⟨S_, .f32⟩
  | 9 => ⟨S_, .f32⟩
  | 10 => ⟨S_, .f32⟩
  | 11 => ⟨S1x64, .f32⟩
  | 12 => ⟨S64, .f32⟩
  | 13 => ⟨S1x64, .f32⟩
  | 14 => ⟨S64, .f32⟩
  | 15 => ⟨S64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S8x8x2x2304x64, .f32⟩
  | 23 => ⟨S8x8x2304x128, .f32⟩
  | 24 => ⟨S8x8x2x2048x2304, .f32⟩
  | 25 => ⟨S_, .f32⟩
  | 26 => ⟨S8x8x2x2048, .f32⟩
  | 27 => ⟨S_, .f32⟩
  | 28 => ⟨S8x8x2x2048, .f32⟩
  | 29 => ⟨S8x8x2x2048, .f32⟩
  | 30 => ⟨S8x8x2x2048x1, .f32⟩
  | 31 => ⟨S8x8x2x2048x2304, .f32⟩
  | 32 => ⟨S8x8x2x2048x2304, .f32⟩
  | 33 => ⟨S8x8x2x2048x2304, .f32⟩
  | 34 => ⟨S_, .f32⟩
  | 35 => ⟨S8x8x2x2048, .f32⟩
  | 36 => ⟨S8x8x2x2048x1, .f32⟩
  | 37 => ⟨S8x8x2x2048x2304, .f32⟩
  | 38 => ⟨S8x8x2x2048x2304, .f32⟩
  | 39 => ⟨S8x8x1x2048x2304, .f32⟩
  | 40 => ⟨S8x8x2048x2304, .f32⟩
  | 41 => ⟨S8x8x1x2048x2304, .f32⟩
  | 42 => ⟨S8x8x2048x2304, .f32⟩
  | 43 => ⟨S8x8x2048x2304, .f32⟩
  | 44 => ⟨S8x8x2048x2304, .f32⟩
  | 45 => ⟨S8x8x2048x2304, .f32⟩
  | 46 => ⟨S8x8x2048x128, .f32⟩
  | 47 => ⟨S8x8x2048x128, .f32⟩
  | 48 => ⟨S_, .f32⟩
  | 49 => ⟨S8x8x2048, .f32⟩
  | 50 => ⟨S8x8x2048x1, .f32⟩
  | 51 => ⟨S_, .f32⟩
  | 52 => ⟨S8x8x2048x1, .f32⟩
  | 53 => ⟨S8x8x2048x1, .f32⟩
  | 54 => ⟨S_, .f32⟩
  | 55 => ⟨S8x8x2048x1, .f32⟩
  | 56 => ⟨S8x8x2048x1, .f32⟩
  | 57 => ⟨S8x8x2048x1, .f32⟩
  | 58 => ⟨S8x8x2048x128, .f32⟩
  | 59 => ⟨S8x8x2048x128, .f32⟩
  | 60 => ⟨S8x2048x8x128, .f32⟩
  | 61 => ⟨S8x2048x1024, .f32⟩
  | 62 => ⟨S_, .f32⟩
  | 63 => ⟨S8x2048x1024, .f32⟩
  | 64 => ⟨S8x2048x1024, .f32⟩
  | 65 => ⟨S_, .f32⟩
  | 66 => ⟨S8x256x1024, .f32⟩
  | 67 => ⟨S8x2304x1024, .f32⟩
  | 68 => ⟨S18432x1024, .f32⟩
  | 69 => ⟨S18432x1024, .bf16⟩
  | _ => ⟨S18432x8192, .bf16⟩

abbrev hbmTy (i : Nat) : BufTy := match i / 128 with
  | 0 => hbmTy0_0 i
  | 1 => hbmTy0_1 i
  | _ => ⟨S18432x8192, .bf16⟩

abbrev bufTy : (tb : Table) → Fin (tcTables nBuf tb) → BufTy
  | .hbm, ⟨i, _⟩ => hbmTy i
  | _, _ => ⟨S18432x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v16 : Ref sig .tc := ⟨.hbm, 37, rfl⟩
abbrev main_c_1 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_2 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_3 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_4 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_5 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_6 : Ref sig .tc := ⟨.hbm, 153, rfl⟩
abbrev main_v107 : Ref sig .tc := ⟨.hbm, 154, rfl⟩
abbrev main_cst_7 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_8 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_9 : Ref sig .tc := ⟨.hbm, 176, rfl⟩
abbrev main_v127 : Ref sig .tc := ⟨.hbm, 177, rfl⟩
abbrev main_v128 : Ref sig .tc := ⟨.hbm, 178, rfl⟩
abbrev main_cst_10 : Ref sig .tc := ⟨.hbm, 179, rfl⟩
abbrev main_v129 : Ref sig .tc := ⟨.hbm, 180, rfl⟩
abbrev main_v130 : Ref sig .tc := ⟨.hbm, 181, rfl⟩
abbrev main_cst_11 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_12 : Ref sig .tc := ⟨.hbm, 190, rfl⟩
abbrev main_v138 : Ref sig .tc := ⟨.hbm, 191, rfl⟩
abbrev main_v139 : Ref sig .tc := ⟨.hbm, 192, rfl⟩
abbrev main_cst_13 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩

abbrev nD : Nat := 1
abbrev τ : Topo := Topo.v7x

variable {F : FTy → Type} [FloatOps F]
-- ==== Kernel2.lean ====
abbrev S18432x2048 : Shape := ⟨2, ![18432, 2048]⟩
abbrev S1x2048x9216 : Shape := ⟨3, ![1, 2048, 9216]⟩
abbrev S2048x9216 : Shape := ⟨2, ![2048, 9216]⟩
abbrev S18432x9216 : Shape := ⟨2, ![18432, 9216]⟩
abbrev S2304x2048 : Shape := ⟨2, ![2304, 2048]⟩
abbrev S2048x512 : Shape := ⟨2, ![2048, 512]⟩
abbrev S2304x512 : Shape := ⟨2, ![2304, 512]⟩

abbrev nBuf : Space → Nat
  | .hbm => 5
  | .vmem => 6
  | .smem => 0
  | _ => 0

abbrev bufTy : (tb : Table) → Fin (tcTables nBuf tb) → BufTy
  | .hbm, ⟨0, _⟩ => ⟨S18432x2048, .bf16⟩
  | .hbm, ⟨1, _⟩ => ⟨S1x2048x9216, .f32⟩
  | .hbm, ⟨2, _⟩ => ⟨S2048x9216, .f32⟩
  | .hbm, ⟨3, _⟩ => ⟨S2048x9216, .bf16⟩
  | .hbm, ⟨4, _⟩ => ⟨S18432x9216, .bf16⟩
  | .local _ .vmem, ⟨0, _⟩ => ⟨S2304x2048, .bf16⟩
  | .local _ .vmem, ⟨1, _⟩ => ⟨S2304x2048, .bf16⟩
  | .local _ .vmem, ⟨2, _⟩ => ⟨S2048x512, .bf16⟩
  | .local _ .vmem, ⟨3, _⟩ => ⟨S2048x512, .bf16⟩
  | .local _ .vmem, ⟨4, _⟩ => ⟨S2304x512, .bf16⟩
  | .local _ .vmem, ⟨5, _⟩ => ⟨S2304x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
abbrev S18432x2048 : Shape := ⟨2, ![18432, 2048]⟩
abbrev S1x2048x9216 : Shape := ⟨3, ![1, 2048, 9216]⟩
abbrev S2048x9216 : Shape := ⟨2, ![2048, 9216]⟩
abbrev S18432x9216 : Shape := ⟨2, ![18432, 9216]⟩
abbrev S2304x2048 : Shape := ⟨2, ![2304, 2048]⟩
abbrev S2048x512 : Shape := ⟨2, ![2048, 512]⟩
abbrev S2304x512 : Shape := ⟨2, ![2304, 512]⟩

abbrev nBuf : Space → Nat
  | .hbm => 5
  | .vmem => 6
  | .smem => 0
  | _ => 0

abbrev bufTy : (tb : Table) → Fin (tcTables nBuf tb) → BufTy
  | .hbm, ⟨0, _⟩ => ⟨S18432x2048, .bf16⟩
  | .hbm, ⟨1, _⟩ => ⟨S1x2048x9216, .f32⟩
  | .hbm, ⟨2, _⟩ => ⟨S2048x9216, .f32⟩
  | .hbm, ⟨3, _⟩ => ⟨S2048x9216, .bf16⟩
  | .hbm, ⟨4, _⟩ => ⟨S18432x9216, .bf16⟩
  | .local _ .vmem, ⟨0, _⟩ => ⟨S2304x2048, .bf16⟩
  | .local _ .vmem, ⟨1, _⟩ => ⟨S2304x2048, .bf16⟩
  | .local _ .vmem, ⟨2, _⟩ => ⟨S2048x512, .bf16⟩
  | .local _ .vmem, ⟨3, _⟩ => ⟨S2048x512, .bf16⟩
  | .local _ .vmem, ⟨4, _⟩ => ⟨S2304x512, .bf16⟩
  | .local _ .vmem, ⟨5, _⟩ => ⟨S2304x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S18432x2048 : Shape := ⟨2, ![18432, 2048]⟩
abbrev S1x2048x9216 : Shape := ⟨3, ![1, 2048, 9216]⟩
abbrev S2048x9216 : Shape := ⟨2, ![2048, 9216]⟩
abbrev S18432x9216 : Shape := ⟨2, ![18432, 9216]⟩

abbrev nBuf : Space → Nat
  | .hbm => 6
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S1x2048x9216, .f32⟩
  | .hbm, ⟨2, _⟩ => ⟨S18432x2048, .f32⟩
  | .hbm, ⟨3, _⟩ => ⟨S2048x9216, .f32⟩
  | .hbm, ⟨4, _⟩ => ⟨S18432x9216, .f32⟩
  | .hbm, ⟨5, _⟩ => ⟨S18432x9216, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S18432x2048 : Shape := ⟨2, ![18432, 2048]⟩
abbrev S1x2048x8192 : Shape := ⟨3, ![1, 2048, 8192]⟩
abbrev S2048x8192 : Shape := ⟨2, ![2048, 8192]⟩
abbrev S18432x8192 : Shape := ⟨2, ![18432, 8192]⟩
abbrev S2304x2048 : Shape := ⟨2, ![2304, 2048]⟩
abbrev S2048x512 : Shape := ⟨2, ![2048, 512]⟩
abbrev S2304x512 : Shape := ⟨2, ![2304, 512]⟩

abbrev nBuf : Space → Nat
  | .hbm => 5
  | .vmem => 6
  | .smem => 0
  | _ => 0

abbrev bufTy : (tb : Table) → Fin (tcTables nBuf tb) → BufTy
  | .hbm, ⟨0, _⟩ => ⟨S18432x2048, .bf16⟩
  | .hbm, ⟨1, _⟩ => ⟨S1x2048x8192, .f32⟩
  | .hbm, ⟨2, _⟩ => ⟨S2048x8192, .f32⟩
  | .hbm, ⟨3, _⟩ => ⟨S2048x8192, .bf16⟩
  | .hbm, ⟨4, _⟩ => ⟨S18432x8192, .bf16⟩
  | .local _ .vmem, ⟨0, _⟩ => ⟨S2304x2048, .bf16⟩
  | .local _ .vmem, ⟨1, _⟩ => ⟨S2304x2048, .bf16⟩
  | .local _ .vmem, ⟨2, _⟩ => ⟨S2048x512, .bf16⟩
  | .local _ .vmem, ⟨3, _⟩ => ⟨S2048x512, .bf16⟩
  | .local _ .vmem, ⟨4, _⟩ => ⟨S2304x512, .bf16⟩
  | .local _ .vmem, ⟨5, _⟩ => ⟨S2304x512, .bf16⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S18432x2048 : Shape := ⟨2, ![18432, 2048]⟩
abbrev S1x2048x8192 : Shape := ⟨3, ![1, 2048, 8192]⟩
abbrev S2048x8192 : Shape := ⟨2, ![2048, 8192]⟩
abbrev S18432x8192 : Shape := ⟨2, ![18432, 8192]⟩

abbrev nBuf : Space → Nat
  | .hbm => 6
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S1x2048x8192, .f32⟩
  | .hbm, ⟨2, _⟩ => ⟨S18432x2048, .f32⟩
  | .hbm, ⟨3, _⟩ => ⟨S2048x8192, .f32⟩
  | .hbm, ⟨4, _⟩ => ⟨S18432x8192, .f32⟩
  | .hbm, ⟨5, _⟩ => ⟨S18432x8192, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S18432x1024 : Shape := ⟨2, ![18432, 1024]⟩
abbrev S18432x2048 : Shape := ⟨2, ![18432, 2048]⟩
abbrev S1x3072x2048 : Shape := ⟨3, ![1, 3072, 2048]⟩
abbrev S9x1x2048 : Shape := ⟨3, ![9, 1, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S3072x2048 : Shape := ⟨2, ![3072, 2048]⟩
abbrev S1024x2048 : Shape := ⟨2, ![1024, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S1x1x2048 : Shape := ⟨3, ![1, 1, 2048]⟩
abbrev S1x2048x4 : Shape := ⟨3, ![1, 2048, 4]⟩
abbrev S2048x4 : Shape := ⟨2, ![2048, 4]⟩
abbrev S1x4 : Shape := ⟨2, ![1, 4]⟩
abbrev S4 : Shape := ⟨1, ![4]⟩
abbrev S1x2048x32 : Shape := ⟨3, ![1, 2048, 32]⟩
abbrev S2048x32 : Shape := ⟨2, ![2048, 32]⟩
abbrev S1x32 : Shape := ⟨2, ![1, 32]⟩
abbrev S32 : Shape := ⟨1, ![32]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S18432x128 : Shape := ⟨2, ![18432, 128]⟩
abbrev S288x1024 : Shape := ⟨2, ![288, 1024]⟩
abbrev S288x2048 : Shape := ⟨2, ![288, 2048]⟩
abbrev S288x128 : Shape := ⟨2, ![288, 128]⟩
abbrev S288x1 : Shape := ⟨2, ![288, 1]⟩
abbrev S288 : Shape := ⟨1, ![288]⟩

abbrev nBuf : Space → Nat
  | .hbm => 61
  | .vmem => 26
  | .smem => 0
  | _ => 0

abbrev bufTy : (tb : Table) → Fin (tcTables nBuf tb) → BufTy
  | .hbm, ⟨0, _⟩ => ⟨S18432x1024, .bf16⟩
  | .hbm, ⟨1, _⟩ => ⟨S18432x2048, .bf16⟩
  | .hbm, ⟨2, _⟩ => ⟨S1x3072x2048, .f32⟩
  | .hbm, ⟨3, _⟩ => ⟨S18432x2048, .f32⟩
  | .hbm, ⟨4, _⟩ => ⟨S9x1x2048, .f32⟩
  | .hbm, ⟨5, _⟩ => ⟨S9x1x2048, .f32⟩
  | .hbm, ⟨6, _⟩ => ⟨S9x1x2048, .f32⟩
  | .hbm, ⟨7, _⟩ => ⟨S2x2048, .f32⟩
  | .hbm, ⟨8, _⟩ => ⟨S2x2048x4, .f32⟩
  | .hbm, ⟨9, _⟩ => ⟨S2x4, .f32⟩
  | .hbm, ⟨10, _⟩ => ⟨S2x2048x32, .f32⟩
  | .hbm, ⟨11, _⟩ => ⟨S2x32, .f32⟩
  | .hbm, ⟨12, _⟩ => ⟨S3072x2048, .f32⟩
  | .hbm, ⟨13, _⟩ => ⟨S3072x2048, .bf16⟩
  | .hbm, ⟨14, _⟩ => ⟨S1024x2048, .bf16⟩
  | .hbm, ⟨15, _⟩ => ⟨S2048x2048, .bf16⟩
  | .hbm, ⟨16, _⟩ => ⟨S1x2048, .f32⟩
  | .hbm, ⟨17, _⟩ => ⟨S2048, .f32⟩
  | .hbm, ⟨18, _⟩ => ⟨S_, .f32⟩
  | .hbm, ⟨19, _⟩ => ⟨S9x1x2048, .f32⟩
  | .hbm, ⟨20, _⟩ => ⟨S9x1x2048, .f32⟩
  | .hbm, ⟨21, _⟩ => ⟨S1x1x2048, .f32⟩
  | .hbm, ⟨22, _⟩ => ⟨S9x1x2048, .f32⟩
  | .hbm, ⟨23, _⟩ => ⟨S9x1x2048, .f32⟩
  | .hbm, ⟨24, _⟩ => ⟨S1x2048x4, .f32⟩
  | .hbm, ⟨25, _⟩ => ⟨S2048x4, .f32⟩
  | .hbm, ⟨26, _⟩ => ⟨S1x4, .f32⟩
  | .hbm, ⟨27, _⟩ => ⟨S4, .f32⟩
  | .hbm, ⟨28, _⟩ => ⟨S1x2048x32, .f32⟩
  | .hbm, ⟨29, _⟩ => ⟨S2048x32, .f32⟩
  | .hbm, ⟨30, _⟩ => ⟨S1x32, .f32⟩
  | .hbm, ⟨31, _⟩ => ⟨S32, .f32⟩
  | .hbm, ⟨32, _⟩ => ⟨S_, .f32⟩
  | .hbm, ⟨33, _⟩ => ⟨S2048x128, .f32⟩
  | .hbm, ⟨34, _⟩ => ⟨S_, .i32⟩
  | .hbm, ⟨35, _⟩ => ⟨S1, .i32⟩
  | .hbm, ⟨36, _⟩ => ⟨S2048x128, .f32⟩
  | .hbm, ⟨37, _⟩ => ⟨S_, .i32⟩
  | .hbm, ⟨38, _⟩ => ⟨S1, .i32⟩
  | .hbm, ⟨39, _⟩ => ⟨S2048x128, .f32⟩
  | .hbm, ⟨40, _⟩ => ⟨S2048x128, .bf16⟩
  | .hbm, ⟨41, _⟩ => ⟨S2048x128, .f32⟩
  | .hbm, ⟨42, _⟩ => ⟨S2048x128, .f32⟩
  | .hbm, ⟨43, _⟩ => ⟨S2048x128, .bf16⟩
  | .hbm, ⟨44, _⟩ => ⟨S_, .f32⟩
  | .hbm, ⟨45, _⟩ => ⟨S1x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S1x128, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S1x128, .f32⟩
  | .hbm, ⟨58, _⟩ => ⟨S18432x2048, .f32⟩
  | .hbm, ⟨59, _⟩ => ⟨S18432x2048, .f32⟩
  | .hbm, ⟨60, _⟩ => ⟨S18432x128, .f32⟩
  | .local _ .vmem, ⟨0, _⟩ => ⟨S288x1024, .bf16⟩
  | .local _ .vmem, ⟨1, _⟩ => ⟨S288x1024, .bf16⟩
  | .local _ .vmem, ⟨2, _⟩ => ⟨S288x2048, .bf16⟩
  | .local _ .vmem, ⟨3, _⟩ => ⟨S288x2048, .bf16⟩
  | .local _ .vmem, ⟨4, _⟩ => ⟨S1024x2048, .bf16⟩
  | .local _ .vmem, ⟨5, _⟩ => ⟨S2048x2048, .bf16⟩
  | .local _ .vmem, ⟨6, _⟩ => ⟨S288x2048, .f32⟩
  | .local _ .vmem, ⟨7, _⟩ => ⟨S288x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S2048x128, .bf16⟩
  | .local _ .vmem, ⟨18, _⟩ => ⟨S2048x128, .bf16⟩
  | .local _ .vmem, ⟨19, _⟩ => ⟨S1x128, .f32⟩
  | .local _ .vmem, ⟨20, _⟩ => ⟨S288x2048, .f32⟩
  | .local _ .vmem, ⟨21, _⟩ => ⟨S288x2048, .f32⟩
  | .local _ .vmem, ⟨22, _⟩ => ⟨S288x2048, .f32⟩
  | .local _ .vmem, ⟨23, _⟩ => ⟨S288x2048, .f32⟩
  | .local _ .vmem, ⟨24, _⟩ => ⟨S288x128, .f32⟩
  | .local _ .vmem, ⟨25, _⟩ => ⟨S288x128, .f32⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S288x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S288x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S288x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S288x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S18432x1024 : Shape := ⟨2, ![18432, 1024]⟩
abbrev S18432x2048 : Shape := ⟨2, ![18432, 2048]⟩
abbrev S1x3072x2048 : Shape := ⟨3, ![1, 3072, 2048]⟩
abbrev S9x1x2048 : Shape := ⟨3, ![9, 1, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S18432x3072 : Shape := ⟨2, ![18432, 3072]⟩
abbrev S3072x2048 : Shape := ⟨2, ![3072, 2048]⟩
abbrev S8x2304x2048 : Shape := ⟨3, ![8, 2304, 2048]⟩
abbrev S8x256x2048 : Shape := ⟨3, ![8, 256, 2048]⟩
abbrev S8x2048x2048 : Shape := ⟨3, ![8, 2048, 2048]⟩
abbrev S8x1x2048 : Shape := ⟨3, ![8, 1, 2048]⟩
abbrev S1x1x2048 : Shape := ⟨3, ![1, 1, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S8x256 : Shape := ⟨2, ![8, 256]⟩
abbrev S8x256x1 : Shape := ⟨3, ![8, 256, 1]⟩
abbrev S1x2048x4 : Shape := ⟨3, ![1, 2048, 4]⟩
abbrev S2048x4 : Shape := ⟨2, ![2048, 4]⟩
abbrev S18432x4 : Shape := ⟨2, ![18432, 4]⟩
abbrev S1x4 : Shape := ⟨2, ![1, 4]⟩
abbrev S4 : Shape := ⟨1, ![4]⟩
abbrev S1x2048x32 : Shape := ⟨3, ![1, 2048, 32]⟩
abbrev S2048x32 : Shape := ⟨2, ![2048, 32]⟩
abbrev S18432x32 : Shape := ⟨2, ![18432, 32]⟩
abbrev S1x32 : Shape := ⟨2, ![1, 32]⟩
abbrev S32 : Shape := ⟨1, ![32]⟩
abbrev S18432x92 : Shape := ⟨2, ![18432, 92]⟩
abbrev S18432x128 : Shape := ⟨2, ![18432, 128]⟩

abbrev nBuf : Space → Nat
  | .hbm => 107
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S18432x2048, .bf16⟩
  | .hbm, ⟨2, _⟩ => ⟨S1x3072x2048, .f32⟩
  | .hbm, ⟨3, _⟩ => ⟨S18432x2048, .f32⟩
  | .hbm, ⟨4, _⟩ => ⟨S9x1x2048, .f32⟩
  | .hbm, ⟨5, _⟩ => ⟨S9x1x2048, .f32⟩
  | .hbm, ⟨6, _⟩ => ⟨S9x1x2048, .f32⟩
  | .hbm, ⟨7, _⟩ => ⟨S2x2048, .f32⟩
  | .hbm, ⟨8, _⟩ => ⟨S2x2048x4, .f32⟩
  | .hbm, ⟨9, _⟩ => ⟨S2x4, .f32⟩
  | .hbm, ⟨10, _⟩ => ⟨S2x2048x32, .f32⟩
  | .hbm, ⟨11, _⟩ => ⟨S2x32, .f32⟩
  | .hbm, ⟨12, _⟩ => ⟨S18432x3072, .bf16⟩
  | .hbm, ⟨13, _⟩ => ⟨S18432x3072, .f32⟩
  | .hbm, ⟨14, _⟩ => ⟨S3072x2048, .f32⟩
  | .hbm, ⟨15, _⟩ => ⟨S18432x2048, .f32⟩
  | .hbm, ⟨16, _⟩ => ⟨S8x2304x2048, .f32⟩
  | .hbm, ⟨17, _⟩ => ⟨S8x2304x2048, .f32⟩
  | .hbm, ⟨18, _⟩ => ⟨S8x256x2048, .f32⟩
  | .hbm, ⟨19, _⟩ => ⟨S8x2048x2048, .f32⟩
  | .hbm, ⟨20, _⟩ => ⟨S8x1x2048, .f32⟩
  | .hbm, ⟨21, _⟩ => ⟨S8x1x2048, .f32⟩
  | .hbm, ⟨22, _⟩ => ⟨S8x1x2048, .f32⟩
  | .hbm, ⟨23, _⟩ => ⟨S1x1x2048, .f32⟩
  | .hbm, ⟨24, _⟩ => ⟨S1x1x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S1x2048, .f32⟩
  | .hbm, ⟨31, _⟩ => ⟨S2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S1x1x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x1x2048, .f32⟩
  | .hbm, ⟨50, _⟩ => ⟨S8x1x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x256x2048, .f32⟩
  | .hbm, ⟨56, _⟩ => ⟨S8x256x2048, .f32⟩
  | .hbm, ⟨57, _⟩ => ⟨S8x256x2048, .f32⟩
  | .hbm, ⟨58, _⟩ => ⟨S8x256x2048, .f32⟩
  | .hbm, ⟨59, _⟩ => ⟨S1x2048, .f32⟩
  | .hbm, ⟨60, _⟩ => ⟨S2048, .f32⟩
  | .hbm, ⟨61, _⟩ => ⟨S8x256x2048, .f32⟩
  | .hbm, ⟨62, _⟩ => ⟨S_, .f32⟩
  | .hbm, ⟨63, _⟩ => ⟨S8x256, .f32⟩
  | .hbm, ⟨64, _⟩ => ⟨S8x256x1, .f32⟩
  | .hbm, ⟨65, _⟩ => ⟨S_, .f32⟩
  | .hbm, ⟨66, _⟩ => ⟨S8x256x1, .f32⟩
  | .hbm, ⟨67, _⟩ => ⟨S8x256x1, .f32⟩
  | .hbm, ⟨68, _⟩ => ⟨S_, .f32⟩
  | .hbm, ⟨69, _⟩ => ⟨S8x256x1, .f32⟩
  | .hbm, ⟨70, _⟩ => ⟨S8x256x1, .f32⟩
  | .hbm, ⟨71, _⟩ => ⟨S8x256x1, .f32⟩
  | .hbm, ⟨72, _⟩ => ⟨S8x256x2048, .f32⟩
  | .hbm, ⟨73, _⟩ => ⟨S8x256x2048, .f32⟩
  | .hbm, ⟨74, _⟩ => ⟨S1x1x2048, .f32⟩
  | .hbm, ⟨75, _⟩ => ⟨S8x256x2048, .f32⟩
  | .hbm, ⟨76, _⟩ => ⟨S8x256x2048, .f32⟩
  | .hbm, ⟨77, _⟩ => ⟨S_, .f32⟩
  | .hbm, ⟨78, _⟩ => ⟨S1x1x2048, .f32⟩
  | .hbm, ⟨79, _⟩ => ⟨S1x1x2048, .f32⟩
  | .hbm, ⟨80, _⟩ => ⟨S8x256x2048, .f32⟩
  | .hbm, ⟨81, _⟩ => ⟨S8x256x2048, .f32⟩
  | .hbm, ⟨82, _⟩ => ⟨S8x256x2048, .f32⟩
  | .hbm, ⟨83, _⟩ => ⟨S8x256x2048, .f32⟩
  | .hbm, ⟨84, _⟩ => ⟨S8x2304x2048, .f32⟩
  | .hbm, ⟨85, _⟩ => ⟨S18432x2048, .f32⟩
  | .hbm, ⟨86, _⟩ => ⟨S1x2048x4, .f32⟩
  | .hbm, ⟨87, _⟩ => ⟨S2048x4, .f32⟩
  | .hbm, ⟨88, _⟩ => ⟨S18432x4, .f32⟩
  | .hbm, ⟨89, _⟩ => ⟨S1x4, .f32⟩
  | .hbm, ⟨90, _⟩ => ⟨S4, .f32⟩
  | .hbm, ⟨91, _⟩ => ⟨S1x4, .f32⟩
  | .hbm, ⟨92, _⟩ => ⟨S18432x4, .f32⟩
  | .hbm, ⟨93, _⟩ => ⟨S18432x4, .f32⟩
  | .hbm, ⟨94, _⟩ => ⟨S1x2048x32, .f32⟩
  | .hbm, ⟨95, _⟩ => ⟨S2048x32, .f32⟩
  | .hbm, ⟨96, _⟩ => ⟨S18432x32, .f32⟩
  | .hbm, ⟨97, _⟩ => ⟨S1x32, .f32⟩
  | .hbm, ⟨98, _⟩ => ⟨S32, .f32⟩
  | .hbm, ⟨99, _⟩ => ⟨S1x32, .f32⟩
  | .hbm, ⟨100, _⟩ => ⟨S18432x32, .f32⟩
  | .hbm, ⟨101, _⟩ => ⟨S18432x32, .f32⟩
  | .hbm, ⟨102, _⟩ => ⟨S_, .f32⟩
  | .hbm, ⟨103, _⟩ => ⟨S18432x92, .f32⟩
  | .hbm, ⟨104, _⟩ => ⟨S18432x128, .f32⟩
  | .hbm, ⟨105, _⟩ => ⟨S8x2304x2048, .f32⟩
  | .hbm, ⟨106, _⟩ => ⟨S18432x2048, .f32⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_7 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Kernel5.lean ====
abbrev S18432x1024 : Shape := ⟨2, ![18432, 1024]⟩
abbrev S1x2048x2048 : Shape := ⟨3, ![1, 2048, 2048]⟩
abbrev S18432x2048 : Shape := ⟨2, ![18432, 2048]⟩
abbrev S9x1x2048 : Shape := ⟨3, ![9, 1, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S2048x2048 : Shape := ⟨2, ![2048, 2048]⟩
abbrev S1024x2048 : Shape := ⟨2, ![1024, 2048]⟩
abbrev S1x2048 : Shape := ⟨2, ![1, 2048]⟩
abbrev S2048 : Shape := ⟨1, ![2048]⟩
abbrev S_ : Shape := ⟨0, ![]⟩
abbrev S1x1x2048 : Shape := ⟨3, ![1, 1, 2048]⟩
abbrev S1x2048x4 : Shape := ⟨3, ![1, 2048, 4]⟩
abbrev S2048x4 : Shape := ⟨2, ![2048, 4]⟩
abbrev S1x4 : Shape := ⟨2, ![1, 4]⟩
abbrev S4 : Shape := ⟨1, ![4]⟩
abbrev S1x2048x32 : Shape := ⟨3, ![1, 2048, 32]⟩
abbrev S2048x32 : Shape := ⟨2, ![2048, 32]⟩
abbrev S1x32 : Shape := ⟨2, ![1, 32]⟩
abbrev S32 : Shape := ⟨1, ![32]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S18432x128 : Shape := ⟨2, ![18432, 128]⟩
abbrev S288x1024 : Shape := ⟨2, ![288, 1024]⟩
abbrev S288x2048 : Shape := ⟨2, ![288, 2048]⟩
abbrev S288x128 : Shape := ⟨2, ![288, 128]⟩
abbrev S288x1 : Shape := ⟨2, ![288, 1]⟩
abbrev S288 : Shape := ⟨1, ![288]⟩

abbrev nBuf : Space → Nat
  | .hbm => 61
  | .vmem => 26
  | .smem => 0
  | _ => 0

abbrev bufTy : (tb : Table) → Fin (tcTables nBuf tb) → BufTy
  | .hbm, ⟨0, _⟩ => ⟨S18432x1024, .bf16⟩
  | .hbm, ⟨1, _⟩ => ⟨S18432x1024, .bf16⟩
  | .hbm, ⟨2, _⟩ => ⟨S1x2048x2048, .f32⟩
  | .hbm, ⟨3, _⟩ => ⟨S18432x2048, .f32⟩
  | .hbm, ⟨4, _⟩ => ⟨S9x1x2048, .f32⟩
  | .hbm, ⟨5, _⟩ => ⟨S9x1x2048, .f32⟩
  | .hbm, ⟨6, _⟩ => ⟨S9x1x2048, .f32⟩
  | .hbm, ⟨7, _⟩ => ⟨S2x2048, .f32⟩
  | .hbm, ⟨8, _⟩ => ⟨S2x2048x4, .f32⟩
  | .hbm, ⟨9, _⟩ => ⟨S2x4, .f32⟩
  | .hbm, ⟨10, _⟩ => ⟨S2x2048x32, .f32⟩
  | .hbm, ⟨11, _⟩ => ⟨S2x32, .f32⟩
  | .hbm, ⟨12, _⟩ => ⟨S2048x2048, .f32⟩
  | .hbm, ⟨13, _⟩ => ⟨S2048x2048, .bf16⟩
  | .hbm, ⟨14, _⟩ => ⟨S1024x2048, .bf16⟩
  | .hbm, ⟨15, _⟩ => ⟨S1024x2048, .bf16⟩
  | .hbm, ⟨16, _⟩ => ⟨S1x2048, .f32⟩
  | .hbm, ⟨17, _⟩ => ⟨S2048, .f32⟩
  | .hbm, ⟨18, _⟩ => ⟨S_, .f32⟩
  | .hbm, ⟨19, _⟩ => ⟨S9x1x2048, .f32⟩
  | .hbm, ⟨20, _⟩ => ⟨S9x1x2048, .f32⟩
  | .hbm, ⟨21, _⟩ => ⟨S1x1x2048, .f32⟩
  | .hbm, ⟨22, _⟩ => ⟨S9x1x2048, .f32⟩
  | .hbm, ⟨23, _⟩ => ⟨S9x1x2048, .f32⟩
  | .hbm, ⟨24, _⟩ => ⟨S1x2048x4, .f32⟩
  | .hbm, ⟨25, _⟩ => ⟨S2048x4, .f32⟩
  | .hbm, ⟨26, _⟩ => ⟨S1x4, .f32⟩
  | .hbm, ⟨27, _⟩ => ⟨S4, .f32⟩
  | .hbm, ⟨28, _⟩ => ⟨S1x2048x32, .f32⟩
  | .hbm, ⟨29, _⟩ => ⟨S2048x32, .f32⟩
  | .hbm, ⟨30, _⟩ => ⟨S1x32, .f32⟩
  | .hbm, ⟨31, _⟩ => ⟨S32, .f32⟩
  | .hbm, ⟨32, _⟩ => ⟨S_, .f32⟩
  | .hbm, ⟨33, _⟩ => ⟨S2048x128, .f32⟩
  | .hbm, ⟨34, _⟩ => ⟨S_, .i32⟩
  | .hbm, ⟨35, _⟩ => ⟨S1, .i32⟩
  | .hbm, ⟨36, _⟩ => ⟨S2048x128, .f32⟩
  | .hbm, ⟨37, _⟩ => ⟨S_, .i32⟩
  | .hbm, ⟨38, _⟩ => ⟨S1, .i32⟩
  | .hbm, ⟨39, _⟩ => ⟨S2048x128, .f32⟩
  | .hbm, ⟨40, _⟩ => ⟨S2048x128, .bf16⟩
  | .hbm, ⟨41, _⟩ => ⟨S2048x128, .f32⟩
  | .hbm, ⟨42, _⟩ => ⟨S2048x128, .f32⟩
  | .hbm, ⟨43, _⟩ => ⟨S2048x128, .bf16⟩
  | .hbm, ⟨44, _⟩ => ⟨S_, .f32⟩
  | .hbm, ⟨45, _⟩ => ⟨S1x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S1x128, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S1x128, .f32⟩
  | .hbm, ⟨58, _⟩ => ⟨S18432x2048, .f32⟩
  | .hbm, ⟨59, _⟩ => ⟨S18432x2048, .f32⟩
  | .hbm, ⟨60, _⟩ => ⟨S18432x128, .f32⟩
  | .local _ .vmem, ⟨0, _⟩ => ⟨S288x1024, .bf16⟩
  | .local _ .vmem, ⟨1, _⟩ => ⟨S288x1024, .bf16⟩
  | .local _ .vmem, ⟨2, _⟩ => ⟨S288x1024, .bf16⟩
  | .local _ .vmem, ⟨3, _⟩ => ⟨S288x1024, .bf16⟩
  | .local _ .vmem, ⟨4, _⟩ => ⟨S1024x2048, .bf16⟩
  | .local _ .vmem, ⟨5, _⟩ => ⟨S1024x2048, .bf16⟩
  | .local _ .vmem, ⟨6, _⟩ => ⟨S288x2048, .f32⟩
  | .local _ .vmem, ⟨7, _⟩ => ⟨S288x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S2048x128, .bf16⟩
  | .local _ .vmem, ⟨18, _⟩ => ⟨S2048x128, .bf16⟩
  | .local _ .vmem, ⟨19, _⟩ => ⟨S1x128, .f32⟩
  | .local _ .vmem, ⟨20, _⟩ => ⟨S288x2048, .f32⟩
  | .local _ .vmem, ⟨21, _⟩ => ⟨S288x2048, .f32⟩
  | .local _ .vmem, ⟨22, _⟩ => ⟨S288x2048, .f32⟩
  | .local _ .vmem, ⟨23, _⟩ => ⟨S288x2048, .f32⟩
  | .local _ .vmem, ⟨24, _⟩ => ⟨S288x128, .f32⟩
  | .local _ .vmem, ⟨25, _⟩ => ⟨S288x128, .f32⟩
  | _, _ => ⟨S18432x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S288x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S288x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S288x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S288x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S288x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S18432x1024 : Shape := ⟨2, ![18432, 1024]⟩
abbrev S1x2048x2048 : Shape := ⟨3, ![1, 2048, 2048]⟩
abbrev S18432x2048 : Shape := ⟨2, ![18432, 2048]⟩
abbrev S9x1x2048 : Shape := ⟨3, ![9, 1, 2048]⟩
abbrev S2x2048 : Shape := ⟨2, ![2, 2048]⟩
abbrev S2x2048x4 : Shape := ⟨3, ![2, 2048, 4]⟩
abbrev S2x4 : Shape := ⟨2, ![2, 4]⟩
abbrev S2x2048x32 : Shape := ⟨3, ![2, 2048, 32]⟩
abbrev S2x32 : Shape := ⟨2, ![2, 32]⟩
abbrev S2048x2048 : Shape := ⟨2, ![2048, 2048]⟩
abbrev S8x2304x2048 : Shape := ⟨3, ![8, 2304, 2048]⟩
abbrev S8x256x2048 : Shape := ⟨3, ![8, 256, 2048]⟩
abbrev S8x2048x2048 : Shape := ⟨3, ![8, 2048, 2048]⟩
abbrev S8x1x2048 : Shape := ⟨3, ![8, 1, 2048]⟩
abbrev S1x1x2048 : Shape := ⟨3, ![1, 1, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S8x256 : Shape := ⟨2, ![8, 256]⟩
abbrev S8x256x1 : Shape := ⟨3, ![8, 256, 1]⟩
abbrev S1x2048x4 : Shape := ⟨3, ![1, 2048, 4]⟩
abbrev S2048x4 : Shape := ⟨2, ![2048, 4]⟩
abbrev S18432x4 : Shape := ⟨2, ![18432, 4]⟩
abbrev S1x4 : Shape := ⟨2, ![1, 4]⟩
abbrev S4 : Shape := ⟨1, ![4]⟩
abbrev S1x2048x32 : Shape := ⟨3, ![1, 2048, 32]⟩
abbrev S2048x32 : Shape := ⟨2, ![2048, 32]⟩
abbrev S18432x32 : Shape := ⟨2, ![18432, 32]⟩
abbrev S1x32 : Shape := ⟨2, ![1, 32]⟩
abbrev S32 : Shape := ⟨1, ![32]⟩
abbrev S18432x92 : Shape := ⟨2, ![18432, 92]⟩
abbrev S18432x128 : Shape := ⟨2, ![18432, 128]⟩

abbrev nBuf : Space → Nat
  | .hbm => 107
  | .vmem => 0
  | .smem => 0
  | _ => 0

abbrev bufTy : (tb : Table) → Fin (tcTables nBuf tb) → BufTy
  | .hbm, ⟨0, _⟩ => ⟨S18432x1024, .bf16⟩
  | .hbm, ⟨1, _⟩ => ⟨S18432x1024, .bf16⟩
  | .hbm, ⟨2, _⟩ => ⟨S1x2048x2048, .f32⟩
  | .hbm, ⟨3, _⟩ => ⟨S18432x2048, .f32⟩
  | .hbm, ⟨4, _⟩ => ⟨S9x1x2048, .f32⟩
  | .hbm, ⟨5, _⟩ => ⟨S9x1x2048, .f32⟩
  | .hbm, ⟨6, _⟩ => ⟨S9x1x2048, .f32⟩
  | .hbm, ⟨7, _⟩ => ⟨S2x2048, .f32⟩
  | .hbm, ⟨8, _⟩ => ⟨S2x2048x4, .f32⟩
  | .hbm, ⟨9, _⟩ => ⟨S2x4, .f32⟩
  | .hbm, ⟨10, _⟩ => ⟨S2x2048x32, .f32⟩
  | .hbm, ⟨11, _⟩ => ⟨S2x32, .f32⟩
  | .hbm, ⟨12, _⟩ => ⟨S18432x2048, .bf16⟩
  | .hbm, ⟨13, _⟩ => ⟨S18432x2048, .f32⟩
  | .hbm, ⟨14, _⟩ => ⟨S2048x2048, .f32⟩
  | .hbm, ⟨15, _⟩ => ⟨S18432x2048, .f32⟩
  | .hbm, ⟨16, _⟩ => ⟨S8x2304x2048, .f32⟩
  | .hbm, ⟨17, _⟩ => ⟨S8x2304x2048, .f32⟩
  | .hbm, ⟨18, _⟩ => ⟨S8x256x2048, .f32⟩
  | .hbm, ⟨19, _⟩ => ⟨S8x2048x2048, .f32⟩
  | .hbm, ⟨20, _⟩ => ⟨S8x1x2048, .f32⟩
  | .hbm, ⟨21, _⟩ => ⟨S8x1x2048, .f32⟩
  | .hbm, ⟨22, _⟩ => ⟨S8x1x2048, .f32⟩
  | .hbm, ⟨23, _⟩ => ⟨S1x1x2048, .f32⟩
  | .hbm, ⟨24, _⟩ => ⟨S1x1x2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S1x2048, .f32⟩
  | .hbm, ⟨31, _⟩ => ⟨S2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S1x1x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x1x2048, .f32⟩
  | .hbm, ⟨50, _⟩ => ⟨S8x1x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x256x2048, .f32⟩
  | .hbm, ⟨56, _⟩ => ⟨S8x256x2048, .f32⟩
  | .hbm, ⟨57, _⟩ => ⟨S8x256x2048, .f32⟩
  | .hbm, ⟨58, _⟩ => ⟨S8x256x2048, .f32⟩
  | .hbm, ⟨59, _⟩ => ⟨S1x2048, .f32⟩
  | .hbm, ⟨60, _⟩ => ⟨S2048, .f32⟩
  | .hbm, ⟨61, _⟩ => ⟨S8x256x2048, .f32⟩
  | .hbm, ⟨62, _⟩ => ⟨S_, .f32⟩
  | .hbm, ⟨63, _⟩ => ⟨S8x256, .f32⟩
  | .hbm, ⟨64, _⟩ => ⟨S8x256x1, .f32⟩
  | .hbm, ⟨65, _⟩ => ⟨S_, .f32⟩
  | .hbm, ⟨66, _⟩ => ⟨S8x256x1, .f32⟩
  | .hbm, ⟨67, _⟩ => ⟨S8x256x1, .f32⟩
  | .hbm, ⟨68, _⟩ => ⟨S_, .f32⟩
  | .hbm, ⟨69, _⟩ => ⟨S8x256x1, .f32⟩
  | .hbm, ⟨70, _⟩ => ⟨S8x256x1, .f32⟩
  | .hbm, ⟨71, _⟩ => ⟨S8x256x1, .f32⟩
  | .hbm, ⟨72, _⟩ => ⟨S8x256x2048, .f32⟩
  | .hbm, ⟨73, _⟩ => ⟨S8x256x2048, .f32⟩
  | .hbm, ⟨74, _⟩ => ⟨S1x1x2048, .f32⟩
  | .hbm, ⟨75, _⟩ => ⟨S8x256x2048, .f32⟩
  | .hbm, ⟨76, _⟩ => ⟨S8x256x2048, .f32⟩
  | .hbm, ⟨77, _⟩ => ⟨S_, .f32⟩
  | .hbm, ⟨78, _⟩ => ⟨S1x1x2048, .f32⟩
  | .hbm, ⟨79, _⟩ => ⟨S1x1x2048, .f32⟩
  | .hbm, ⟨80, _⟩ => ⟨S8x256x2048, .f32⟩
  | .hbm, ⟨81, _⟩ => ⟨S8x256x2048, .f32⟩
  | .hbm, ⟨82, _⟩ => ⟨S8x256x2048, .f32⟩
  | .hbm, ⟨83, _⟩ => ⟨S8x256x2048, .f32⟩
  | .hbm, ⟨84, _⟩ => ⟨S8x2304x2048, .f32⟩
  | .hbm, ⟨85, _⟩ => ⟨S18432x2048, .f32⟩
  | .hbm, ⟨86, _⟩ => ⟨S1x2048x4, .f32⟩
  | .hbm, ⟨87, _⟩ => ⟨S2048x4, .f32⟩
  | .hbm, ⟨88, _⟩ => ⟨S18432x4, .f32⟩
  | .hbm, ⟨89, _⟩ => ⟨S1x4, .f32⟩
  | .hbm, ⟨90, _⟩ => ⟨S4, .f32⟩
  | .hbm, ⟨91, _⟩ => ⟨S1x4, .f32⟩
  | .hbm, ⟨92, _⟩ => ⟨S18432x4, .f32⟩
  | .hbm, ⟨93, _⟩ => ⟨S18432x4, .f32⟩
  | .hbm, ⟨94, _⟩ => ⟨S1x2048x32, .f32⟩
  | .hbm, ⟨95, _⟩ => ⟨S2048x32, .f32⟩
  | .hbm, ⟨96, _⟩ => ⟨S18432x32, .f32⟩
  | .hbm, ⟨97, _⟩ => ⟨S1x32, .f32⟩
  | .hbm, ⟨98, _⟩ => ⟨S32, .f32⟩
  | .hbm, ⟨99, _⟩ => ⟨S1x32, .f32⟩
  | .hbm, ⟨100, _⟩ => ⟨S18432x32, .f32⟩
  | .hbm, ⟨101, _⟩ => ⟨S18432x32, .f32⟩
  | .hbm, ⟨102, _⟩ => ⟨S_, .f32⟩
  | .hbm, ⟨103, _⟩ => ⟨S18432x92, .f32⟩
  | .hbm, ⟨104, _⟩ => ⟨S18432x128, .f32⟩
  | .hbm, ⟨105, _⟩ => ⟨S8x2304x2048, .f32⟩
  | .hbm, ⟨106, _⟩ => ⟨S18432x2048, .f32⟩
  | _, _ => ⟨S18432x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_7 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Proof.DiffBlocks.lean ====
module

public import proofs.«01_k».proof.Proof.Gen.KernelIdeal.Value
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen Cert.KernelIdeal.Value

variable (m : (ℓ : Loc nD τ sig) → Buf (Elt Ideal) ℓ)

/-- Where each window's block lies at grid point `t`: batch `t / 72`, head `t / 9 % 8`, block of queries `t % 9`. -/
theorem idx : ∀ t : Fin cfg0.N, win0_0.index t = ![0]
    ∧ win0_1.index t = ![(t.val / 72) * 9 + (t.val % 9), t.val / 9 % 8]
    ∧ win0_2.index t = ![t.val / 72, 8 + (t.val / 9 % 8)]
    ∧ win0_3.index t = ![t.val / 72, 16 + (t.val / 9 % 8)]
    ∧ win0_4.index t = ![t.val % 9, 0]
    ∧ win0_5.index t = ![t.val % 9, 0]
    ∧ win0_6.index t = ![0, 0]
    ∧ win0_7.index t = ![0, 0]
    ∧ win0_8.index t = ![(t.val / 72) * 9 + (t.val % 9), t.val / 9 % 8] :=
  (by decide +kernel : ∀ t : Fin grid0.N, _)

theorem count (t : Fin cfg0.N) : t.val < 576 := lt_of_lt_of_eq t.isLt N_0

/-! ## The blocks at a grid point -/

theorem blk0 (c : Dev nD) (t : Fin cfg0.N) :
    (show Vec Ideal S1 .f32 from iblk m c 0 t) (ix1 0) = (show Vec Ideal S1 .f32 from V m c main_v54) (ix1 0) := by
  blk_point [iblk, idx t]

theorem blk1 (c : Dev nD) (t : Fin cfg0.N) (r : Fin 256) (l : Fin 128) :
    (show Vec Ideal S256x128 .bf16 from iblk m c 1 t) (ix2 r l) = (m ((c : Thread nD τ).loc main_arg0) : Vec Ideal S18432x8192 .bf16)
      (ix2 ⟨2304 * (t.val / 72) + (256 * (t.val % 9) + r), by have := count t; omega⟩ ⟨128 * (t.val / 9 % 8) + l, by omega⟩) := by
  blk_point [iblk, V, idx t]

theorem blk2 (c : Dev nD) (t : Fin cfg0.N) (p : Fin 2304) (l : Fin 128) :
    (show Vec Ideal S2304x128 .bf16 from iblk m c 2 t) (ix2 p l) = (m ((c : Thread nD τ).loc main_arg0) : Vec Ideal S18432x8192 .bf16)
      (ix2 ⟨2304 * (t.val / 72) + p, by have := count t; omega⟩ ⟨1024 + (128 * (t.val / 9 % 8) + l), by omega⟩) := by
  blk_point [iblk, V, idx t]

theorem blk3 (c : Dev nD) (t : Fin cfg0.N) (p : Fin 2304) (l : Fin 128) :
    (show Vec Ideal S2304x128 .bf16 from iblk m c 3 t) (ix2 p l) = (m ((c : Thread nD τ).loc main_arg0) : Vec Ideal S18432x8192 .bf16)
      (ix2 ⟨2304 * (t.val / 72) + p, by have := count t; omega⟩ ⟨2048 + (128 * (t.val / 9 % 8) + l), by omega⟩) := by
  blk_point [iblk, V, idx t]

theorem blk4 (c : Dev nD) (t : Fin cfg0.N) (r : Fin 256) (l : Fin 128) :
    (show Vec Ideal S256x128 .f32 from iblk m c 4 t) (ix2 r l) = (show Vec Ideal S2304x128 .f32 from V m c main_v51)
      (ix2 ⟨256 * (t.val % 9) + r, by omega⟩ l) := by
  blk_point [iblk, idx t]

theorem blk5 (c : Dev nD) (t : Fin cfg0.N) (r : Fin 256) (l : Fin 128) :
    (show Vec Ideal S256x128 .f32 from iblk m c 5 t) (ix2 r l) = (show Vec Ideal S2304x128 .f32 from V m c main_v53)
      (ix2 ⟨256 * (t.val % 9) + r, by omega⟩ l) := by
  blk_point [iblk, idx t]

theorem blk6 (c : Dev nD) (t : Fin cfg0.N) (p : Fin 2304) (l : Fin 128) :
    (show Vec Ideal S2304x128 .f32 from iblk m c 6 t) (ix2 p l) = (show Vec Ideal S2304x128 .f32 from V m c main_v51) (ix2 p l) := by
  blk_point [iblk, idx t]

theorem blk7 (c : Dev nD) (t : Fin cfg0.N) (p : Fin 2304) (l : Fin 128) :
    (show Vec Ideal S2304x128 .f32 from iblk m c 7 t) (ix2 p l) = (show Vec Ideal S2304x128 .f32 from V m c main_v53) (ix2 p l) := by
  blk_point [iblk, idx t]

/-! ## The two scratch buffers: turned keys and values, written at a head's first point and kept -/

theorem keys_held (c : Dev nD) (t : Fin cfg0.N) : (outsAt0 m c t.val t.isLt).2.1
    = (fun t : Fin cfg0.N => k0_pay4 (F := Ideal) (iblk m c 2 t) (iblk m c 6 t) (iblk m c 7 t)) ⟨9 * (t.val / 9), Pipeline.run_start_lt t⟩ := by
  refine Pipeline.eq_of_write_hold (fun n h => (outsAt0 m c n h).2.1) 9 (fun t : Fin cfg0.N => k0_pay4 (F := Ideal) (iblk m c 2 t) (iblk m c 6 t) (iblk m c 7 t)) (fun t h0 => ?_) (fun t h0 => ?_) t
  · show (outsAt0 m c t.val t.isLt).2.1 = _
    rw [outsAt0_A m c t h0 (by omega)]
    frame_out
  · show (outsAt0 m c t.val t.isLt).2.1 = _
    rw [outsAt0_B m c t h0 (by omega)]
    rfl

theorem vals_held (c : Dev nD) (t : Fin cfg0.N) : (outsAt0 m c t.val t.isLt).2.2
    = (fun t : Fin cfg0.N => k0_pay1 (F := Ideal) (iblk m c 3 t)) ⟨9 * (t.val / 9), Pipeline.run_start_lt t⟩ := by
  refine Pipeline.eq_of_write_hold (fun n h => (outsAt0 m c n h).2.2) 9 (fun t : Fin cfg0.N => k0_pay1 (F := Ideal) (iblk m c 3 t)) (fun t h0 => ?_) (fun t h0 => ?_) t
  · show (outsAt0 m c t.val t.isLt).2.2 = _
    rw [outsAt0_A m c t h0 (by omega)]
    frame_out
  · show (outsAt0 m c t.val t.isLt).2.2 = _
    rw [outsAt0_B m c t h0 (by omega)]
    rfl

end Cert.KernelIdeal.Diff

end
-- ==== Proof.DiffSpec.lean ====
module

public import Idealize.ShloMosaic.PureOps
public import Idealize.ShloMosaic.PureOps.Ideal
public import Idealize.ShloMosaic.Lib.Pointwise

@[expose] public section

noncomputable section

open Idealize.ShloMosaic

namespace Cert.Diff

/-! ## The positions' angles -/

/-- Position `n` in the 32 × 64 image along axis `a`, as a machine word. -/
def word (a : Fin 2) (n : ℕ) : BitVec 32 := BitVec.ofNat 32 (if a.val < 1 then n / 64 else n % 64)

/-- The angle of frequency `f` at position `n` along axis `a`. -/
def ang (n : ℕ) (a : Fin 2) (f : ℕ) : EReal :=
  (((word a n).toInt : ℝ) : EReal)
    * Ideal.pow (Ideal.ofBits .f32 0x461C4000#32) (Ideal.div (-(((BitVec.ofNat 32 f).toInt : ℝ) : EReal)) (Ideal.ofBits .f32 0x41800000#32))

theorem base_bits : Ideal.ofBits .f32 0x461C4000#32 = ((10000 : ℝ) : EReal) := by
  simp [Ideal.ofBits, Ideal.ieee, -EReal.coe_mul]; norm_num

theorem sixteen_bits : Ideal.ofBits .f32 0x41800000#32 = ((16 : ℝ) : EReal) := by
  simp [Ideal.ofBits, Ideal.ieee, -EReal.coe_mul]; norm_num

theorem eighth_bits : Ideal.ofBits .f32 0x3E000000#32 = ((8⁻¹ : ℝ) : EReal) := by
  simp [Ideal.ofBits, Ideal.ieee, -EReal.coe_mul]; norm_num

theorem low_bits : Ideal.ofBits .f32 0xFF800000#32 = ⊥ := by
  simp [Ideal.ofBits, Ideal.ieee]

theorem high_bits : Ideal.ofBits .f32 0x7F800000#32 = ⊤ := by
  simp [Ideal.ofBits, Ideal.ieee]

/-- Every angle is a real number. -/
theorem ang_real (n : ℕ) (a : Fin 2) (f : ℕ) : ∃ r : ℝ, ang n a f = (r : EReal) := by
  refine ⟨((word a n).toInt : ℝ) * Real.rpow 10000 (-((BitVec.ofNat 32 f).toInt : ℝ) * (1 / 16)), ?_⟩
  unfold ang
  rw [base_bits, sixteen_bits, Ideal.div_coe (by norm_num)]
  rw [EReal.coe_mul, ← Ideal.pow_coe_coe, EReal.coe_mul, EReal.coe_neg]

/-- The angle as a real number. -/
def angR (n : ℕ) (a : Fin 2) (f : ℕ) : ℝ := (ang_real n a f).choose

theorem ang_eq (n : ℕ) (a : Fin 2) (f : ℕ) : ang n a f = (angR n a f : EReal) := (ang_real n a f).choose_spec

/-! ## Turning a head's lanes -/

/-- The lane a lane is turned against: the other half of its axis. -/
def mate (d : Fin 64) : Fin 64 := if d.val / 16 % 2 < 1 then ⟨(d + 16) % 64, by omega⟩ else ⟨d - 16, by omega⟩

/-- The lanes `y` of a token at position `n`, turned by the position's angles. -/
def turnR (n : ℕ) (y : Fin 64 → ℝ) (d : Fin 64) : ℝ :=
  y d * Real.cos (angR n ⟨d / 32, by omega⟩ (d % 16))
    + y (mate d) * ((if d.val / 16 % 2 < 1 then -1 else 1) * Real.sin (angR n ⟨d / 32, by omega⟩ (d % 16)))

/-- The lanes of row `p` of a batch's 256 context and 2048 latent rows: the latent rows are turned. -/
def rowR (p : ℕ) (y : Fin 64 → ℝ) (d : Fin 64) : ℝ := if p < 256 then y d else turnR (p - 256) y d

/-- The score of a turned query `y` at latent position `n` with a row `z` at row `p`. -/
def scoreR (n p : ℕ) (y z : Fin 64 → ℝ) : ℝ := ∑ d : Fin 64, turnR n y d * 8⁻¹ * rowR p z d

/-! ## Softmax -/

section
variable {n : ℕ} [NeZero n]

/-- The greatest of finitely many real numbers is a real number. -/
theorem fold_real (s : Fin n → ℝ) : ∃ M : ℝ, Finset.univ.fold max (⊥ : EReal) (fun k => (s k : EReal)) = (M : EReal) := by
  have h : Finset.univ.fold max (⊥ : EReal) (fun k => (s k : EReal)) = Finset.univ.sup (fun k => (s k : EReal)) := rfl
  obtain ⟨i, _, hi⟩ := Finset.exists_mem_eq_sup Finset.univ (Finset.univ_nonempty (α := Fin n)) (fun k => (s k : EReal))
  exact ⟨s i, h.trans hi⟩

/-- The softmax of real scores. -/
def softR (s : Fin n → ℝ) (k : Fin n) : ℝ := Real.exp (s k) / ∑ j, Real.exp (s j)

theorem sum_pos (s : Fin n → ℝ) : 0 < ∑ j, Real.exp (s j) :=
  Finset.sum_pos (fun j _ => Real.exp_pos _) (Finset.univ_nonempty (α := Fin n))

theorem coe_sum {ι : Type*} (u : Finset ι) (f : ι → ℝ) : (∑ i ∈ u, (f i : EReal)) = ((∑ i ∈ u, f i : ℝ) : EReal) := by
  classical
  induction u using Finset.induction_on with
  | empty => simp
  | insert a u ha ih => rw [Finset.sum_insert ha, Finset.sum_insert ha, ih, EReal.coe_add]

/-- Dividing by the sum of exponentials taken off any real number is the softmax. -/
theorem soft_exp (s : Fin n → ℝ) (M : ℝ) (k : Fin n) :
    Ideal.div (Ideal.exp ((s k : EReal) - (M : EReal))) (∑ j, Ideal.exp ((s j : EReal) - (M : EReal))) = (softR s k : EReal) := by
  simp only [← EReal.coe_sub, Ideal.exp_coe]
  have hp := sum_pos (fun j => s j - M)
  rw [coe_sum, Ideal.div_coe hp.ne', ← EReal.coe_mul]
  refine congrArg _ ?_
  have hs := sum_pos s
  have he := Real.exp_pos M
  unfold softR
  have : ∑ j, Real.exp (s j - M) = (∑ j, Real.exp (s j)) / Real.exp M := by
    rw [Finset.sum_div]; exact Finset.sum_congr rfl fun j _ => Real.exp_sub _ _
  rw [this, Real.exp_sub]
  field_simp

/-- The same softmax by powers of two of the scores over `ln 2`. -/
theorem soft_exp2 (s : Fin n → ℝ) (M : ℝ) (k : Fin n) :
    Ideal.exp2 (((s k * (Real.log 2)⁻¹ : ℝ) : EReal) - (M : EReal))
        * Ideal.div 1 (∑ j, Ideal.exp2 (((s j * (Real.log 2)⁻¹ : ℝ) : EReal) - (M : EReal))) = (softR s k : EReal) := by
  have h2 : Real.log 2 ≠ 0 := (Real.log_pos (by norm_num)).ne'
  have hx : ∀ j, Real.rpow 2 (s j * (Real.log 2)⁻¹ - M) = Real.exp (s j - M * Real.log 2) := fun j => by
    show ((2 : ℝ) ^ (s j * (Real.log 2)⁻¹ - M) : ℝ) = _
    rw [Real.rpow_def_of_pos (by norm_num)]
    congr 1
    field_simp
  simp only [← EReal.coe_sub, Ideal.exp2_coe, hx]
  have hp := sum_pos (fun j => s j - M * Real.log 2)
  rw [coe_sum, Ideal.div_coe hp.ne', one_mul, ← EReal.coe_mul]
  refine congrArg _ ?_
  have hs := sum_pos s
  have he := Real.exp_pos (M * Real.log 2)
  unfold softR
  have : ∑ j, Real.exp (s j - M * Real.log 2) = (∑ j, Real.exp (s j)) / Real.exp (M * Real.log 2) := by
    rw [Finset.sum_div]; exact Finset.sum_congr rfl fun j _ => Real.exp_sub _ _
  rw [this, Real.exp_sub]
  field_simp

end

/-! ## The order of the keys -/

/-- Where the reference's `k`-th key stands among a batch's rows: the latent rows first, then the context rows. -/
def place : Fin 2304 ≃ Fin 2304 where
  toFun k := if h : k.val < 2048 then ⟨k + 256, by omega⟩ else ⟨k - 2048, by omega⟩
  invFun p := if h : p.val < 256 then ⟨p + 2048, by omega⟩ else ⟨p - 256, by omega⟩
  left_inv k := by
    by_cases h : k.val < 2048
    · simp [h]
    · have := k.isLt; simp [h]; split <;> [skip; omega]; apply Fin.ext; simp; omega
  right_inv p := by
    by_cases h : p.val < 256
    · simp [h]
    · have := p.isLt; simp [h]; split <;> [skip; omega]; apply Fin.ext; simp; omega

theorem place_val (k : Fin 2304) : (place k).val = if k.val < 2048 then k.val + 256 else k.val - 2048 := by
  unfold place; by_cases h : k.val < 2048 <;> simp [h]

/-- A softmax does not depend on the order of its scores. -/
theorem soft_place (s : Fin 2304 → ℝ) (k : Fin 2304) : softR (fun j => s (place j)) k = softR s (place k) := by
  unfold softR
  rw [Equiv.sum_comp place (fun j => Real.exp (s j))]

/-! ## The kernel's way of turning lanes and of scoring -/

/-- The kernel's cosine and signed sine tables, over a batch's rows and a head's 128 lanes: one and zero in the context rows. -/
def cosT (p : ℕ) (l : Fin 128) : EReal := if p < 256 then 1 else Ideal.cos (ang (p - 256) ⟨l % 64 / 32, by omega⟩ (l % 64 % 16))
def sinT (p : ℕ) (l : Fin 128) : EReal :=
  if p < 256 then 0
  else if l.val % 64 / 16 % 2 < 1 then -Ideal.sin (ang (p - 256) ⟨l % 64 / 32, by omega⟩ (l % 64 % 16)) else Ideal.sin (ang (p - 256) ⟨l % 64 / 32, by omega⟩ (l % 64 % 16))

/-- Lane `l` of a row turned as the kernel does it: the lane times its cosine plus its mate times its signed sine. -/
def lane (p : ℕ) (y : Fin 128 → EReal) (l : Fin 128) : EReal :=
  y l * cosT p l + (if l.val % 32 < 16 then y ⟨(l + 128 - 112) % 128, by omega⟩ else y ⟨(l + 128 - 16) % 128, by omega⟩) * sinT p l

/-- It is the row's turning. -/
theorem lane_real (p : ℕ) (y : Fin 128 → EReal) (z : Fin 64 → ℝ) (t : Fin 2) (hy : ∀ d : Fin 64, y ⟨64 * t + d, by omega⟩ = (z d : EReal)) (d : Fin 64) :
    lane p y ⟨64 * t + d, by omega⟩ = (rowR p z d : EReal) := by
  have ht := t.isLt
  have hd := d.isLt
  have e1 : (64 * t.val + d.val) % 64 = d.val := by omega
  have hm : (if (64 * t.val + d.val) % 32 < 16 then y ⟨(64 * t + d + 128 - 112) % 128, by omega⟩ else y ⟨(64 * t + d + 128 - 16) % 128, by omega⟩)
      = (z (mate d) : EReal) := by
    rw [← hy]
    unfold mate
    by_cases h : d.val / 16 % 2 < 1
    · rw [if_pos (by omega)]; refine congrArg y (Fin.ext ?_); simp [h]; omega
    · rw [if_neg (by omega)]; refine congrArg y (Fin.ext ?_); simp [h]; omega
  unfold lane
  rw [hm, hy]
  unfold cosT sinT rowR turnR
  simp only [e1]
  by_cases hp : p < 256
  · simp [hp]
  · by_cases h : d.val / 16 % 2 < 1
    · simp only [if_neg hp, if_pos h, ang_eq, Ideal.cos_coe, Ideal.sin_coe, ← EReal.coe_neg, ← EReal.coe_mul, ← EReal.coe_add]
      refine congrArg _ ?_; ring
    · simp only [if_neg hp, if_neg h, ang_eq, Ideal.cos_coe, Ideal.sin_coe, ← EReal.coe_mul, ← EReal.coe_add]
      refine congrArg _ ?_; ring

/-- A sum over 128 lanes that keeps one half of them. -/
theorem half_sum (t : Fin 2) (f : Fin 128 → EReal) :
    (∑ l : Fin 128, if l.val / 64 = t.val then f l else 0) = ∑ d : Fin 64, f ⟨64 * t + d, by omega⟩ := by
  have h := Fin.sum_univ_add (a := 64) (b := 64) (fun l : Fin (64 + 64) => if l.val / 64 = t.val then f l else 0)
  refine h.trans ?_
  match t with
  | 0 =>
    refine (congrArg₂ (· + ·) (Finset.sum_congr rfl fun d _ => ?_) (Finset.sum_eq_zero fun d _ => ?_)).trans (add_zero (∑ d : Fin 64, f ⟨64 * (0 : Fin 2) + d, by omega⟩))
    · have := d.isLt
      rw [if_pos (by simp)]
      exact congrArg f (Fin.ext (by simp))
    · have := d.isLt
      rw [if_neg (by simp)]
  | 1 =>
    refine (congrArg₂ (· + ·) (Finset.sum_eq_zero fun d _ => ?_) (Finset.sum_congr rfl fun d _ => ?_)).trans (zero_add (∑ d : Fin 64, f ⟨64 * (1 : Fin 2) + d, by omega⟩))
    · have := d.isLt
      rw [if_neg (by simp; omega)]
    · have := d.isLt
      rw [if_pos (by simp)]
      exact congrArg f (Fin.ext (by simp; omega))

/-- The kernel's mixed weights, from its two parts' scores. -/
def mixK (lam : EReal) (s u : Fin 2304 → EReal) (p : Fin 2304) : EReal :=
  Ideal.exp2 (s p - Finset.univ.fold max (Ideal.ofBits .f32 0xFF800000#32) s)
      * Ideal.div 1 (∑ j, Ideal.exp2 (s j - Finset.univ.fold max (Ideal.ofBits .f32 0xFF800000#32) s))
    - Ideal.exp2 (u p - Finset.univ.fold max (Ideal.ofBits .f32 0xFF800000#32) u)
      * (lam * Ideal.div 1 (∑ j, Ideal.exp2 (u j - Finset.univ.fold max (Ideal.ofBits .f32 0xFF800000#32) u)))

/-- Over real scores divided by `ln 2` they are the mixed softmaxes. -/
theorem mixK_real (lam : EReal) (s u : Fin 2304 → ℝ) (p : Fin 2304) :
    mixK lam (fun j => ((s j * (Real.log 2)⁻¹ : ℝ) : EReal)) (fun j => ((u j * (Real.log 2)⁻¹ : ℝ) : EReal)) p
      = (softR s p : EReal) - lam * (softR u p : EReal) := by
  obtain ⟨M, hM⟩ := fold_real fun j => s j * (Real.log 2)⁻¹
  obtain ⟨N, hN⟩ := fold_real fun j => u j * (Real.log 2)⁻¹
  unfold mixK
  rw [low_bits, hM, hN, soft_exp2 s M p, mul_left_comm, soft_exp2 u N p]

/-- The scale the kernel folds into its scores. -/
def scale : ℝ := (8 * Real.log 2)⁻¹

/-- The kernel's score of a turned and scaled query with a turned row is the score over `ln 2`. -/
theorem scoreK_real (n p : ℕ) (y z : Fin 64 → ℝ) :
    (∑ d : Fin 64, ((rowR (256 + n) y d : EReal) * (scale : EReal)) * (rowR p z d : EReal)) = ((scoreR n p y z * (Real.log 2)⁻¹ : ℝ) : EReal) := by
  unfold scoreR
  rw [Finset.sum_mul, ← coe_sum]
  refine Finset.sum_congr rfl fun d _ => ?_
  rw [← EReal.coe_mul, ← EReal.coe_mul]
  refine congrArg _ ?_
  have e : rowR (256 + n) y d = turnR n y d := by unfold rowR; rw [if_neg (by omega), Nat.add_sub_cancel_left]
  rw [e]
  unfold scale
  rw [mul_inv]
  ring

/-! ## The attention -/

/-- The projection's array and the result's. -/
abbrev SX : Shape := ⟨2, ![18432, 8192]⟩
abbrev SO : Shape := ⟨2, ![18432, 1024]⟩

variable (X : SX.Idx → ℝ)

/-- Part `t` of head `h`'s query at row `p` of batch `b`, and of its key; head `h`'s value there. -/
def qR (b h : Fin 8) (t : Fin 2) (p : Fin 2304) (d : Fin 64) : ℝ := X (ix2 ⟨2304 * b + p, by omega⟩ ⟨128 * h + (64 * t + d), by omega⟩)
def kR (b h : Fin 8) (t : Fin 2) (p : Fin 2304) (d : Fin 64) : ℝ := X (ix2 ⟨2304 * b + p, by omega⟩ ⟨1024 + (128 * h + (64 * t + d)), by omega⟩)
def vR (b h : Fin 8) (p : Fin 2304) (l : Fin 128) : ℝ := X (ix2 ⟨2304 * b + p, by omega⟩ ⟨2048 + (128 * h + l), by omega⟩)

/-- The scores of latent position `n`'s query against every row. -/
def sR (b h : Fin 8) (t : Fin 2) (n : Fin 2048) (p : Fin 2304) : ℝ := scoreR n p (qR X b h t ⟨256 + n, by omega⟩) (kR X b h t p)

variable (lam : EReal)

/-- The mixed weights: one softmax less `λ` times the other. -/
def mix (b h : Fin 8) (n : Fin 2048) (p : Fin 2304) : EReal := (softR (sR X b h 0 n) p : EReal) - lam * (softR (sR X b h 1 n) p : EReal)

/-- A head's output before its norm. -/
def out (b h : Fin 8) (n : Fin 2048) (l : Fin 128) : EReal := ∑ p : Fin 2304, mix X lam b h n p * (vR X b h p l : EReal)

/-- A row of 128 lanes over the root of its mean square, times the constant the reference ends with. -/
def norm (o : Fin 128 → EReal) (l : Fin 128) : EReal :=
  o l * Ideal.rsqrt (Ideal.div (∑ d : Fin 128, o d * o d) (Ideal.ofBits .f32 0x43000000#32) + Ideal.ofBits .f32 0x358637BD#32)
    * Ideal.ofBits .f32 0x3F24FD5C#32

/-- The attention's result: zeros in the context rows, each head's normed output in the latent rows. -/
def result : Vec Ideal SO .bf16 := fun j =>
  if _ : (j 0).val % 2304 < 256 then (0 : EReal)
  else norm (out X lam ⟨(j 0).val / 2304, by have : (j 0).val < 18432 := (j 0).isLt; omega⟩ ⟨(j 1).val / 128, by have : (j 1).val < 1024 := (j 1).isLt; omega⟩ ⟨(j 0).val % 2304 - 256, by omega⟩)
    ⟨(j 1).val % 128, by omega⟩

end Cert.Diff

end
-- ==== Proof.DiffKernel.lean ====
module

public import proofs.«01_k».proof.Proof.Gen.KernelIdeal.Value
public import proofs.«01_k».proof.Proof.DiffSpec
public import Idealize.ShloMosaic.Lib.Pipeline.ValueKit
public import Idealize.ShloMosaic.Lib.Pipeline.ValueKit.Held
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen Cert.KernelIdeal.Value

/-! ## The kernel's arithmetic at an index -/

/-- The kernel's test whether a lane is in the first half of its axis, as it computes it on the lane's word. -/
def early (l : Fin 128) : BitVec 1 :=
  IntOp.cmpi CmpIPredicate.slt
    (Scalar.select
      (IntOp.andi
        (IntOp.xori
          (IntOp.cmpi CmpIPredicate.slt (IntOp.remsi ArithUnit.vector (BitVec.ofNat 32 l.val) (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne (IntOp.remsi ArithUnit.vector (BitVec.ofNat 32 l.val) (Scalar.select (Scalar.cmpi CmpIPredicate.eq 32#32 0#32) 1#32 32#32)) 0#32))
      (IntOp.addi (IntOp.remsi ArithUnit.vector (BitVec.ofNat 32 l.val) (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 l.val) (Scalar.select (Scalar.cmpi CmpIPredicate.eq 32#32 0#32) 1#32 32#32)))
    16#32

theorem early_eq (l : Fin 128) : early l = if l.val % 32 < 16 then 1#1 else 0#1 := by
  have h : ∀ l : Fin 128, early l = if l.val % 32 < 16 then 1#1 else 0#1 := by decide +kernel
  exact h l

theorem early_select (l : Fin 128) (u v : EReal) : Scalar.select (early l) u v = if l.val % 32 < 16 then u else v := by
  rw [early_eq]
  by_cases h : l.val % 32 < 16
  · rw [if_pos h, if_pos h]; rfl
  · rw [if_neg h, if_neg h]; rfl

/-- The two parts' masks. -/
theorem low_mask (l : Fin 128) (u : EReal) :
    Scalar.select (IntOp.xori (IntOp.xori (IntOp.cmpi CmpIPredicate.sge (BitVec.ofNat 32 l.val) 64#32) 0#1) 1#1) u 0 = if l.val / 64 = (0 : Fin 2).val then u else 0 := by
  have h : ∀ l : Fin 128, IntOp.xori (IntOp.xori (IntOp.cmpi CmpIPredicate.sge (BitVec.ofNat 32 l.val) 64#32) 0#1) 1#1 = if l.val / 64 = (0 : Fin 2).val then 1#1 else 0#1 := by decide +kernel
  rw [h l]
  by_cases h : l.val / 64 = (0 : Fin 2).val
  · rw [if_pos h, if_pos h]; rfl
  · rw [if_neg h, if_neg h]; rfl

theorem high_mask (l : Fin 128) (u : EReal) :
    Scalar.select (IntOp.xori (IntOp.xori (IntOp.cmpi CmpIPredicate.sge (BitVec.ofNat 32 l.val) 64#32) 1#1) 1#1) u 0 = if l.val / 64 = (1 : Fin 2).val then u else 0 := by
  have h : ∀ l : Fin 128, IntOp.xori (IntOp.xori (IntOp.cmpi CmpIPredicate.sge (BitVec.ofNat 32 l.val) 64#32) 1#1) 1#1 = if l.val / 64 = (1 : Fin 2).val then 1#1 else 0#1 := by decide +kernel
  rw [h l]
  by_cases h : l.val / 64 = (1 : Fin 2).val
  · rw [if_pos h, if_pos h]; rfl
  · rw [if_neg h, if_neg h]; rfl

/-- Lane `l` of row `p` of the keys: the row's lanes turned by the tables. -/
theorem k_apply (k : FVec Ideal S2304x128 .bf16) (c s : FVec Ideal S2304x128 .f32) (p : Fin 2304) (l : Fin 128) :
    k0_pay4 (F := Ideal) k c s (ix2 p l) = k (ix2 p l) * c (ix2 p l)
      + (if l.val % 32 < 16 then k (ix2 p ⟨(l + 128 - 112) % 128, by omega⟩) else k (ix2 p ⟨(l + 128 - 16) % 128, by omega⟩)) * s (ix2 p l) := by
  rw [← early_select]
  unfold early
  pointwise [k0_pay4]

/-- Lane `l` of row `r` of a block of queries: turned and scaled. -/
theorem q_apply (q : FVec Ideal S256x128 .bf16) (c s : FVec Ideal S256x128 .f32) (r : Fin 256) (l : Fin 128) :
    k0_pay5 (F := Ideal) q c s (ix2 r l) = (q (ix2 r l) * c (ix2 r l)
      + (if l.val % 32 < 16 then q (ix2 r ⟨(l + 128 - 112) % 128, by omega⟩) else q (ix2 r ⟨(l + 128 - 16) % 128, by omega⟩)) * s (ix2 r l)) * (Diff.scale : EReal) := by
  rw [← early_select]
  unfold early
  pointwise [k0_pay5]
  rw [IdealRules.named_const.ideal_named_scalar _ _ _ _ rfl]
  rfl

/-- The weights of row `r` of a block of queries. -/
theorem w_apply (lam : EReal) (q : FVec Ideal S256x128 .f32) (k : FVec Ideal S2304x128 .bf16) (r : Fin 256) (p : Fin 2304) :
    k0_pay8 (F := Ideal) lam q (iota Kind.tc S256x128 32 [1] iota_S256x128_d1_w32) k k0_pay6 k0_pay7 (ix2 r p)
      = Diff.mixK lam (fun j => ∑ l : Fin 128, if l.val / 64 = (0 : Fin 2).val then q (ix2 r l) * k (ix2 j l) else 0)
          (fun j => ∑ l : Fin 128, if l.val / 64 = (1 : Fin 2).val then q (ix2 r l) * k (ix2 j l) else 0) p := by
  unfold Diff.mixK
  simp only [← low_mask, ← high_mask]
  pointwise [k0_pay8, k0_pay6, k0_pay7]
  have e : ∀ z : EReal, FloatOps.exp2 (F := Ideal) (φ := .f32) z = Ideal.exp2 z := fun _ => rfl
  simp only [e]

/-- A block's output: the weights' product with the values, normed. -/
theorem o_apply (a : FVec Ideal S256x2304 .bf16) (v : FVec Ideal S2304x128 .bf16) (r : Fin 256) (l : Fin 128) :
    k0_pay3 (F := Ideal) a v (ix2 r l) = Diff.norm (fun l => ∑ p : Fin 2304, a (ix2 r p) * v (ix2 p l)) l := by
  unfold Diff.norm
  pointwise [k0_pay3]

end Cert.KernelIdeal.Diff

end
-- ==== Proof.DiffTables.lean ====
module

public import proofs.«01_k».proof.Proof.Gen.KernelIdeal.Value
public import proofs.«01_k».proof.Proof.DiffSpec
public import Idealize.ShloMosaic.Lib.Pipeline.ValueKit
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen Cert.KernelIdeal.Value

/-! ## What the host prepares

The host's arrays are read over the words of the positions, which it divides by 64 and reduces modulo 64. -/

/-- The quotient by 64 as the host computes it on the word of `n`. -/
def quot (n : ℕ) : BitVec 32 :=
  Scalar.select
    (IntOp.andi
      (IntOp.cmpi CmpIPredicate.ne
        (if BitVec.ofNat 32 n = 0 then 0 else if (BitVec.ofNat 32 n).msb = true then -1 else 1 : BitVec 32)
        (if id (constantI S_ 32 64#32) ix0 = 0 then 0 else if BitVec.msb (id (constantI S_ 32 64#32) ix0) = true then -1 else 1 : BitVec 32))
      (IntOp.cmpi CmpIPredicate.ne (IntOp.remsi ArithUnit.host (BitVec.ofNat 32 n) (id (constantI S_ 32 64#32) ix0)) 0#32))
    (IntOp.subi (IntOp.divsi ArithUnit.host (BitVec.ofNat 32 n) (id (constantI S_ 32 64#32) ix0)) 1#32)
    (IntOp.divsi ArithUnit.host (BitVec.ofNat 32 n) (id (constantI S_ 32 64#32) ix0))

/-- The remainder modulo 64 as the host computes it on the word of `n`. -/
def rest (n : ℕ) : BitVec 32 :=
  Scalar.select
    (IntOp.andi
      (IntOp.cmpi CmpIPredicate.ne
        (IntOp.cmpi CmpIPredicate.slt
          (IntOp.remsi ArithUnit.host (BitVec.ofNat 32 n)
            (Scalar.select (IntOp.cmpi CmpIPredicate.eq (id (constantI S_ 32 64#32) ix0) 0#32) (1#32) (id (constantI S_ 32 64#32) ix0)))
          0#32)
        (IntOp.cmpi CmpIPredicate.slt
          (Scalar.select (IntOp.cmpi CmpIPredicate.eq (id (constantI S_ 32 64#32) ix0) 0#32) (1#32) (id (constantI S_ 32 64#32) ix0))
          0#32))
      (IntOp.cmpi CmpIPredicate.ne
        (IntOp.remsi ArithUnit.host (BitVec.ofNat 32 n)
          (Scalar.select (IntOp.cmpi CmpIPredicate.eq (id (constantI S_ 32 64#32) ix0) 0#32) (1#32) (id (constantI S_ 32 64#32) ix0)))
        0#32))
    (IntOp.addi
      (IntOp.remsi ArithUnit.host (BitVec.ofNat 32 n)
        (Scalar.select (IntOp.cmpi CmpIPredicate.eq (id (constantI S_ 32 64#32) ix0) 0#32) (1#32) (id (constantI S_ 32 64#32) ix0)))
      (Scalar.select (IntOp.cmpi CmpIPredicate.eq (id (constantI S_ 32 64#32) ix0) 0#32) (1#32) (id (constantI S_ 32 64#32) ix0)))
    (IntOp.remsi ArithUnit.host (BitVec.ofNat 32 n)
      (Scalar.select (IntOp.cmpi CmpIPredicate.eq (id (constantI S_ 32 64#32) ix0) 0#32) (1#32) (id (constantI S_ 32 64#32) ix0)))

theorem quot_eq (n : ℕ) (hn : n < 2048) : quot n = BitVec.ofNat 32 (n / 64) := by
  have h : ∀ n : Fin 2048, quot n.val = BitVec.ofNat 32 (n.val / 64) := by decide +kernel
  exact h ⟨n, hn⟩

theorem rest_eq (n : ℕ) (hn : n < 2048) : rest n = BitVec.ofNat 32 (n % 64) := by
  have h : ∀ n : Fin 2048, rest n.val = BitVec.ofNat 32 (n.val % 64) := by decide +kernel
  exact h ⟨n, hn⟩

/-- An integer word as a number. -/
theorem number (w : BitVec 32) : FloatOps.sitofp (F := Ideal) .f32 w = ((w.toInt : ℝ) : EReal) := rfl

variable (m : (ℓ : Loc nD τ sig) → Buf (Elt Ideal) ℓ)

/-- The mixing weight, as the host computes it from its four vectors. -/
def lam (w : Vec Ideal S1x4x64 .f32) : EReal :=
  Ideal.exp (∑ d : Fin 64, w (ix3 0 0 d) * w (ix3 0 1 d)) - Ideal.exp (∑ d : Fin 64, w (ix3 0 2 d) * w (ix3 0 3 d)) + Ideal.ofBits .f32 0x3EB60549#32

theorem lam_at (c : Dev nD) :
    (show EReal from (V m c main_v54 : Vec Ideal S1 .f32) (ix1 0)) = lam (m ((c : Thread nD τ).loc main_arg1)) := by
  unfold V lam
  after_reads_at

theorem cos_first (c : Dev nD) (p : Fin 2304) (l : Fin 128) (h1 : l.val % 64 / 32 < 1) :
    (show EReal from (V m c main_v51 : Vec Ideal S2304x128 .f32) (ix2 p l)) = Diff.cosT p l := by
  unfold V
  after_reads_at
  by_cases h : p.val < 256
  · unfold Diff.cosT
    rw [dif_pos h, if_pos h]
  · rw [dif_neg h, dif_pos h1]
    after_reads_at
    simp only [number]
    refine (congrArg (fun w : BitVec 32 => Ideal.cos (((w.toInt : ℝ) : EReal) * Ideal.pow (Ideal.ofBits .f32 0x461C4000#32) (Ideal.div (-(((BitVec.ofNat 32 (l.val % 64 % 16)).toInt : ℝ) : EReal)) (Ideal.ofBits .f32 0x41800000#32)))) (quot_eq (p.val - 256) (by omega))).trans ?_
    unfold Diff.cosT Diff.ang Diff.word
    rw [if_neg h, if_pos h1]

theorem cos_second (c : Dev nD) (p : Fin 2304) (l : Fin 128) (h1 : ¬l.val % 64 / 32 < 1) :
    (show EReal from (V m c main_v51 : Vec Ideal S2304x128 .f32) (ix2 p l)) = Diff.cosT p l := by
  unfold V
  after_reads_at
  by_cases h : p.val < 256
  · unfold Diff.cosT
    rw [dif_pos h, if_pos h]
  · rw [dif_neg h, dif_neg h1]
    after_reads_at
    simp only [number]
    refine (congrArg (fun w : BitVec 32 => Ideal.cos (((w.toInt : ℝ) : EReal) * Ideal.pow (Ideal.ofBits .f32 0x461C4000#32) (Ideal.div (-(((BitVec.ofNat 32 (l.val % 64 % 16)).toInt : ℝ) : EReal)) (Ideal.ofBits .f32 0x41800000#32)))) (rest_eq (p.val - 256) (by omega))).trans ?_
    unfold Diff.cosT Diff.ang Diff.word
    rw [if_neg h, if_neg h1]

/-- The cosine table. -/
theorem cos_at (c : Dev nD) (p : Fin 2304) (l : Fin 128) :
    (show EReal from (V m c main_v51 : Vec Ideal S2304x128 .f32) (ix2 p l)) = Diff.cosT p l := by
  by_cases h1 : l.val % 64 / 32 < 1
  · exact cos_first m c p l h1
  · exact cos_second m c p l h1

theorem sin_first_minus (c : Dev nD) (p : Fin 2304) (l : Fin 128) (h : ¬p.val < 256) (h1 : l.val % 64 / 32 < 1) (h2 : l.val % 64 / 16 % 2 < 1) :
    (show EReal from (V m c main_v53 : Vec Ideal S2304x128 .f32) (ix2 p l)) = Diff.sinT p l := by
  unfold V
  after_reads_at
  rw [dif_neg h, dif_pos h2]
  after_reads_at
  rw [dif_pos h1]
  after_reads_at
  simp only [number]
  refine (congrArg (fun w : BitVec 32 => -Ideal.sin (((w.toInt : ℝ) : EReal) * Ideal.pow (Ideal.ofBits .f32 0x461C4000#32) (Ideal.div (-(((BitVec.ofNat 32 (l.val % 64 % 16)).toInt : ℝ) : EReal)) (Ideal.ofBits .f32 0x41800000#32)))) (quot_eq (p.val - 256) (by omega))).trans ?_
  unfold Diff.sinT Diff.ang Diff.word
  rw [if_neg h, if_pos h2, if_pos h1]

theorem sin_first_plus (c : Dev nD) (p : Fin 2304) (l : Fin 128) (h : ¬p.val < 256) (h1 : l.val % 64 / 32 < 1) (h2 : ¬l.val % 64 / 16 % 2 < 1) :
    (show EReal from (V m c main_v53 : Vec Ideal S2304x128 .f32) (ix2 p l)) = Diff.sinT p l := by
  unfold V
  after_reads_at
  rw [dif_neg h, dif_neg h2]
  after_reads_at
  rw [dif_pos h1]
  after_reads_at
  simp only [number]
  refine (congrArg (fun w : BitVec 32 => Ideal.sin (((w.toInt : ℝ) : EReal) * Ideal.pow (Ideal.ofBits .f32 0x461C4000#32) (Ideal.div (-(((BitVec.ofNat 32 (l.val % 64 % 16)).toInt : ℝ) : EReal)) (Ideal.ofBits .f32 0x41800000#32)))) (quot_eq (p.val - 256) (by omega))).trans ?_
  unfold Diff.sinT Diff.ang Diff.word
  rw [if_neg h, if_neg h2, if_pos h1]

theorem sin_second_minus (c : Dev nD) (p : Fin 2304) (l : Fin 128) (h : ¬p.val < 256) (h1 : ¬l.val % 64 / 32 < 1) (h2 : l.val % 64 / 16 % 2 < 1) :
    (show EReal from (V m c main_v53 : Vec Ideal S2304x128 .f32) (ix2 p l)) = Diff.sinT p l := by
  unfold V
  after_reads_at
  rw [dif_neg h, dif_pos h2]
  after_reads_at
  rw [dif_neg h1]
  after_reads_at
  simp only [number]
  refine (congrArg (fun w : BitVec 32 => -Ideal.sin (((w.toInt : ℝ) : EReal) * Ideal.pow (Ideal.ofBits .f32 0x461C4000#32) (Ideal.div (-(((BitVec.ofNat 32 (l.val % 64 % 16)).toInt : ℝ) : EReal)) (Ideal.ofBits .f32 0x41800000#32)))) (rest_eq (p.val - 256) (by omega))).trans ?_
  unfold Diff.sinT Diff.ang Diff.word
  rw [if_neg h, if_pos h2, if_neg h1]

theorem sin_second_plus (c : Dev nD) (p : Fin 2304) (l : Fin 128) (h : ¬p.val < 256) (h1 : ¬l.val % 64 / 32 < 1) (h2 : ¬l.val % 64 / 16 % 2 < 1) :
    (show EReal from (V m c main_v53 : Vec Ideal S2304x128 .f32) (ix2 p l)) = Diff.sinT p l := by
  unfold V
  after_reads_at
  rw [dif_neg h, dif_neg h2]
  after_reads_at
  rw [dif_neg h1]
  after_reads_at
  simp only [number]
  refine (congrArg (fun w : BitVec 32 => Ideal.sin (((w.toInt : ℝ) : EReal) * Ideal.pow (Ideal.ofBits .f32 0x461C4000#32) (Ideal.div (-(((BitVec.ofNat 32 (l.val % 64 % 16)).toInt : ℝ) : EReal)) (Ideal.ofBits .f32 0x41800000#32)))) (rest_eq (p.val - 256) (by omega))).trans ?_
  unfold Diff.sinT Diff.ang Diff.word
  rw [if_neg h, if_neg h2, if_neg h1]

/-- The signed sine table. -/
theorem sin_at (c : Dev nD) (p : Fin 2304) (l : Fin 128) :
    (show EReal from (V m c main_v53 : Vec Ideal S2304x128 .f32) (ix2 p l)) = Diff.sinT p l := by
  by_cases h : p.val < 256
  · unfold V Diff.sinT
    after_reads_at
    rw [dif_pos h, if_pos h]
  · by_cases h1 : l.val % 64 / 32 < 1 <;> by_cases h2 : l.val % 64 / 16 % 2 < 1
    · exact sin_first_minus m c p l h h1 h2
    · exact sin_first_plus m c p l h h1 h2
    · exact sin_second_minus m c p l h h1 h2
    · exact sin_second_plus m c p l h h1 h2

end Cert.KernelIdeal.Diff

end
-- ==== Proof.DiffRef.lean ====
module

public import proofs.«01_k».proof.Proof.Gen.ReferenceIdeal.Read
public import proofs.«01_k».proof.Proof.DiffSpec
public import Idealize.ShloMosaic.Lib.Pointwise

@[expose] public section

set_option maxRecDepth 16384

noncomputable section

open Idealize.ShloMosaic Idealize.ShloMosaic.TcCoe Idealize.SL.Sem

namespace Cert.ReferenceIdeal.Diff

open Cert.ReferenceIdeal Cert.ReferenceIdeal.Gen Cert.ReferenceIdeal.Read

variable (x : Vec Ideal S18432x8192 .bf16) (w : Vec Ideal S1x4x64 .f32)

/-! ## Where the heads' queries, keys and values stand in the projection -/

/-- Lane `d` of part `t` of head `h`'s query at latent token `p`. -/
theorem q_apply (b h : Fin 8) (t : Fin 2) (p : Fin 2048) (d : Fin 64) :
    val_main_v30 (F := Ideal) x (ix5 b h t p d) = x (ix2 ⟨2304 * b + (256 + p), by omega⟩ ⟨128 * h + (64 * t + d), by omega⟩) := by
  pointwise [val_main_v30, val_main_v29, val_main_v4, val_main_v3, val_main_v1, val_main_v0]
  exact congrArg x ((ix2_inj ..).2 ⟨Fin.ext (by simp; omega), Fin.ext (by simp; omega)⟩)

/-- The same lane of the key at latent token `p`. -/
theorem k_apply (b h : Fin 8) (t : Fin 2) (p : Fin 2048) (d : Fin 64) :
    val_main_v57 (F := Ideal) x (ix5 b h t p d) = x (ix2 ⟨2304 * b + (256 + p), by omega⟩ ⟨1024 + (128 * h + (64 * t + d)), by omega⟩) := by
  pointwise [val_main_v57, val_main_v56, val_main_v5, val_main_v3, val_main_v1, val_main_v0]
  exact congrArg x ((ix2_inj ..).2 ⟨Fin.ext (by simp; omega), Fin.ext (by simp; omega)⟩)

/-- The same lane of the key at context token `p`. -/
theorem kc_apply (b h : Fin 8) (t : Fin 2) (p : Fin 256) (d : Fin 64) :
    val_main_v84 (F := Ideal) x (ix5 b h t p d) = x (ix2 ⟨2304 * b + p, by omega⟩ ⟨1024 + (128 * h + (64 * t + d)), by omega⟩) := by
  pointwise [val_main_v84, val_main_v83, val_main_v7, val_main_v2, val_main_v1, val_main_v0]
  exact congrArg x ((ix2_inj ..).2 ⟨Fin.ext (by simp; omega), Fin.ext (by simp; omega)⟩)

/-- Lane `d` of head `h`'s value at latent token `p`. -/
theorem v_apply (b h : Fin 8) (p : Fin 2048) (d : Fin 128) :
    val_main_v82 (F := Ideal) x (ix4 b h p d) = x (ix2 ⟨2304 * b + (256 + p), by omega⟩ ⟨2048 + (128 * h + d), by omega⟩) := by
  pointwise [val_main_v82, val_main_v81, val_main_v6, val_main_v3, val_main_v1, val_main_v0]
  exact congrArg x ((ix2_inj ..).2 ⟨Fin.ext (by simp; omega), Fin.ext (by simp; omega)⟩)

/-- The same lane of the value at context token `p`. -/
theorem vc_apply (b h : Fin 8) (p : Fin 256) (d : Fin 128) :
    val_main_v86 (F := Ideal) x (ix4 b h p d) = x (ix2 ⟨2304 * b + p, by omega⟩ ⟨2048 + (128 * h + d), by omega⟩) := by
  pointwise [val_main_v86, val_main_v85, val_main_v8, val_main_v2, val_main_v1, val_main_v0]
  exact congrArg x ((ix2_inj ..).2 ⟨Fin.ext (by simp; omega), Fin.ext (by simp; omega)⟩)

/-! ## The rotation -/

theorem cos_tab (n : Fin 128) (p : Fin 2048) (a : Fin 2) (f : Fin 16) :
    val_main_v37 (F := Ideal) (ix4 n p a f) = val_main_v27 (F := Ideal) (ix3 p a f) := by
  pointwise [val_main_v37, val_main_v36]

theorem sin_tab (n : Fin 128) (p : Fin 2048) (a : Fin 2) (f : Fin 16) :
    val_main_v40 (F := Ideal) (ix4 n p a f) = val_main_v28 (F := Ideal) (ix3 p a f) := by
  pointwise [val_main_v40, val_main_v39]

theorem q_first (n : Fin 128) (p : Fin 2048) (a : Fin 2) (f : Fin 16) :
    val_main_v33 (F := Ideal) x (ix4 n p a f) = val_main_v31 (F := Ideal) x (ix5 n p a 0 f) := by
  pointwise [val_main_v33, val_main_v32]

theorem q_second (n : Fin 128) (p : Fin 2048) (a : Fin 2) (f : Fin 16) :
    val_main_v35 (F := Ideal) x (ix4 n p a f) = val_main_v31 (F := Ideal) x (ix5 n p a 1 f) := by
  pointwise [val_main_v35, val_main_v34]

theorem k_first (n : Fin 128) (p : Fin 2048) (a : Fin 2) (f : Fin 16) :
    val_main_v60 (F := Ideal) x (ix4 n p a f) = val_main_v58 (F := Ideal) x (ix5 n p a 0 f) := by
  pointwise [val_main_v60, val_main_v59]

theorem k_second (n : Fin 128) (p : Fin 2048) (a : Fin 2) (f : Fin 16) :
    val_main_v62 (F := Ideal) x (ix4 n p a f) = val_main_v58 (F := Ideal) x (ix5 n p a 1 f) := by
  pointwise [val_main_v62, val_main_v61]

theorem q_half (b h : Fin 8) (t : Fin 2) (p : Fin 2048) (a s : Fin 2) (f : Fin 16) :
    val_main_v31 (F := Ideal) x (ix5 ⟨b * 16 + h * 2 + t, by omega⟩ p a s f)
      = val_main_v30 (F := Ideal) x (ix5 b h t p ⟨a * 32 + s * 16 + f, by omega⟩) := by
  pointwise [val_main_v31]

theorem k_half (b h : Fin 8) (t : Fin 2) (p : Fin 2048) (a s : Fin 2) (f : Fin 16) :
    val_main_v58 (F := Ideal) x (ix5 ⟨b * 16 + h * 2 + t, by omega⟩ p a s f)
      = val_main_v57 (F := Ideal) x (ix5 b h t p ⟨a * 32 + s * 16 + f, by omega⟩) := by
  pointwise [val_main_v58]

theorem q_join (b h : Fin 8) (t : Fin 2) (p : Fin 2048) (d : Fin 64) :
    val_main_v53 (F := Ideal) x (ix5 b h t p d)
      = if _ : d.val / 16 % 2 < 1 then val_main_v42 (F := Ideal) x (ix4 ⟨b * 16 + h * 2 + t, by omega⟩ p ⟨d / 32, by omega⟩ ⟨d % 16, by omega⟩)
        else val_main_v49 (F := Ideal) x (ix4 ⟨b * 16 + h * 2 + t, by omega⟩ p ⟨d / 32, by omega⟩ ⟨d % 16, by omega⟩) := by
  pointwise [val_main_v53, val_main_v52, val_main_v51, val_main_v50]

theorem k_join (b h : Fin 8) (t : Fin 2) (p : Fin 2048) (d : Fin 64) :
    val_main_v80 (F := Ideal) x (ix5 b h t p d)
      = if _ : d.val / 16 % 2 < 1 then val_main_v69 (F := Ideal) x (ix4 ⟨b * 16 + h * 2 + t, by omega⟩ p ⟨d / 32, by omega⟩ ⟨d % 16, by omega⟩)
        else val_main_v76 (F := Ideal) x (ix4 ⟨b * 16 + h * 2 + t, by omega⟩ p ⟨d / 32, by omega⟩ ⟨d % 16, by omega⟩) := by
  pointwise [val_main_v80, val_main_v79, val_main_v78, val_main_v77]

theorem scale_apply (b h : Fin 8) (t : Fin 2) (p : Fin 2048) (d : Fin 64) :
    val_main_v54 (F := Ideal) (ix5 b h t p d) = Ideal.ofBits .f32 0x3E000000#32 := by
  pointwise [val_main_v54, val_main_cst_2]

/-- A head's lanes `y` rotated by the tables `C` and `S` of one position: each of the two axes' 32 lanes is a pair of halves
    of 16 lanes, turned against each other. -/
def turn (C S : Fin 2 → Fin 16 → EReal) (y : Fin 64 → EReal) (d : Fin 64) : EReal :=
  if _ : d.val / 16 % 2 < 1 then
    y d * C ⟨d / 32, by omega⟩ ⟨d % 16, by omega⟩ - y ⟨d + 16, by omega⟩ * S ⟨d / 32, by omega⟩ ⟨d % 16, by omega⟩
  else
    y d * C ⟨d / 32, by omega⟩ ⟨d % 16, by omega⟩ + y ⟨d - 16, by omega⟩ * S ⟨d / 32, by omega⟩ ⟨d % 16, by omega⟩

/-- The cosine and sine tables of the latent tokens' positions. -/
def C (p : Fin 2048) (a : Fin 2) (f : Fin 16) : EReal := val_main_v27 (F := Ideal) (ix3 p a f)
def S (p : Fin 2048) (a : Fin 2) (f : Fin 16) : EReal := val_main_v28 (F := Ideal) (ix3 p a f)

/-- The rotated query, scaled. -/
theorem qr_apply (b h : Fin 8) (t : Fin 2) (p : Fin 2048) (d : Fin 64) :
    val_main_v55 (F := Ideal) x (ix5 b h t p d)
      = turn (C p) (S p) (fun e => val_main_v30 (F := Ideal) x (ix5 b h t p e)) d * Ideal.ofBits .f32 0x3E000000#32 := by
  rw [val_main_v55_apply, Ideal.mulf_def, scale_apply, q_join]
  refine congrArg (· * _) ?_
  unfold turn C S
  by_cases hd : d.val / 16 % 2 < 1
  · rw [dif_pos hd, dif_pos hd, val_main_v42_apply, val_main_v38_apply, val_main_v41_apply, Ideal.subf_def, Ideal.mulf_def, Ideal.mulf_def,
      q_first, q_second, cos_tab, sin_tab, q_half, q_half]
    refine congrArg₂ (fun u v => u * _ - v * _) (congrArg _ ?_) (congrArg _ ?_) <;> congr 1 <;> apply Fin.ext <;> simp <;> omega
  · rw [dif_neg hd, dif_neg hd, val_main_v49_apply, val_main_v45_apply, val_main_v48_apply, Ideal.addf_def, Ideal.mulf_def, Ideal.mulf_def,
      q_first, q_second, show val_main_v44 (F := Ideal) = val_main_v37 (F := Ideal) from rfl,
      show val_main_v47 (F := Ideal) = val_main_v40 (F := Ideal) from rfl, cos_tab, sin_tab, q_half, q_half]
    refine congrArg₂ (fun u v => u * _ + v * _) (congrArg _ ?_) (congrArg _ ?_) <;> congr 1 <;> apply Fin.ext <;> simp <;> omega

/-- The rotated key of a latent token. -/
theorem kr_apply (b h : Fin 8) (t : Fin 2) (p : Fin 2048) (d : Fin 64) :
    val_main_v80 (F := Ideal) x (ix5 b h t p d)
      = turn (C p) (S p) (fun e => val_main_v57 (F := Ideal) x (ix5 b h t p e)) d := by
  rw [k_join]
  unfold turn C S
  by_cases hd : d.val / 16 % 2 < 1
  · rw [dif_pos hd, dif_pos hd, val_main_v69_apply, val_main_v65_apply, val_main_v68_apply, Ideal.subf_def, Ideal.mulf_def, Ideal.mulf_def,
      k_first, k_second, show val_main_v64 (F := Ideal) = val_main_v37 (F := Ideal) from rfl,
      show val_main_v67 (F := Ideal) = val_main_v40 (F := Ideal) from rfl, cos_tab, sin_tab, k_half, k_half]
    refine congrArg₂ (fun u v => u * _ - v * _) (congrArg _ ?_) (congrArg _ ?_) <;> congr 1 <;> apply Fin.ext <;> simp <;> omega
  · rw [dif_neg hd, dif_neg hd, val_main_v76_apply, val_main_v72_apply, val_main_v75_apply, Ideal.addf_def, Ideal.mulf_def, Ideal.mulf_def,
      k_first, k_second, show val_main_v71 (F := Ideal) = val_main_v37 (F := Ideal) from rfl,
      show val_main_v74 (F := Ideal) = val_main_v40 (F := Ideal) from rfl, cos_tab, sin_tab, k_half, k_half]
    refine congrArg₂ (fun u v => u * _ + v * _) (congrArg _ ?_) (congrArg _ ?_) <;> congr 1 <;> apply Fin.ext <;> simp <;> omega

/-! ## Keys, values, scores and their softmax -/

/-- The keys of a head: the latent tokens', rotated, then the context tokens'. -/
theorem key_apply (b h : Fin 8) (t : Fin 2) (k : Fin 2304) (d : Fin 64) :
    val_main_v104 (F := Ideal) x (ix5 b h t k d)
      = if hk : k.val < 2048 then val_main_v80 (F := Ideal) x (ix5 b h t ⟨k, hk⟩ d) else val_main_v84 (F := Ideal) x (ix5 b h t ⟨k - 2048, by omega⟩ d) := by
  pointwise [val_main_v104]

/-- The values of a head, in the same order. -/
theorem val_apply (b h : Fin 8) (k : Fin 2304) (d : Fin 128) :
    val_main_v105 (F := Ideal) x (ix4 b h k d)
      = if hk : k.val < 2048 then val_main_v82 (F := Ideal) x (ix4 b h ⟨k, hk⟩ d) else val_main_v86 (F := Ideal) x (ix4 b h ⟨k - 2048, by omega⟩ d) := by
  pointwise [val_main_v105]

/-- A score: the product of a query and a key. -/
theorem score_apply (b h : Fin 8) (t : Fin 2) (p : Fin 2048) (k : Fin 2304) :
    val_main_v106 (F := Ideal) x (ix5 b h t p k)
      = ∑ d : Fin 64, val_main_v55 (F := Ideal) x (ix5 b h t p d) * val_main_v104 (F := Ideal) x (ix5 b h t k d) := by
  pointwise [val_main_v106]

theorem fold_apply (b h : Fin 8) (t : Fin 2) (p : Fin 2048) :
    val_main_v107 (F := Ideal) x (ix4 b h t p)
      = Finset.univ.fold max (Ideal.ofBits .f32 0xFF800000#32) fun k : Fin 2304 => val_main_v106 (F := Ideal) x (ix5 b h t p k) := by
  pointwise [val_main_v107, val_main_cst_6]

theorem low_apply (b h : Fin 8) (t : Fin 2) (p : Fin 2048) :
    val_main_v108 (F := Ideal) (ix4 b h t p) = Ideal.ofBits .f32 0xFF800000#32 := by
  pointwise [val_main_v108, val_main_cst_7]

/-- The greatest score of a query. -/
theorem top_apply (b h : Fin 8) (t : Fin 2) (p : Fin 2048) :
    val_main_v109 (F := Ideal) x (ix4 b h t p)
      = max (Ideal.ofBits .f32 0xFF800000#32) (Finset.univ.fold max (Ideal.ofBits .f32 0xFF800000#32) fun k : Fin 2304 => val_main_v106 (F := Ideal) x (ix5 b h t p k)) := by
  rw [val_main_v109_apply, Ideal.maximumf_def, low_apply, fold_apply]

theorem top_spread (b h : Fin 8) (t : Fin 2) (p : Fin 2048) (k : Fin 2304) :
    val_main_v111 (F := Ideal) x (ix5 b h t p k) = val_main_v109 (F := Ideal) x (ix4 b h t p) := by
  pointwise [val_main_v111, val_main_v110]

theorem exp_apply (b h : Fin 8) (t : Fin 2) (p : Fin 2048) (k : Fin 2304) :
    val_main_v113 (F := Ideal) x (ix5 b h t p k)
      = Ideal.exp (val_main_v106 (F := Ideal) x (ix5 b h t p k) - val_main_v109 (F := Ideal) x (ix4 b h t p)) := by
  rw [val_main_v113_apply, val_main_v112_apply, top_spread, Ideal.hostUnary_exp_def, Ideal.subf_def]

theorem sum_apply (b h : Fin 8) (t : Fin 2) (p : Fin 2048) :
    val_main_v114 (F := Ideal) x (ix4 b h t p) = ∑ k : Fin 2304, val_main_v113 (F := Ideal) x (ix5 b h t p k) := by
  pointwise [val_main_v114, val_main_cst_8]

theorem soft_apply (b h : Fin 8) (t : Fin 2) (p : Fin 2048) (k : Fin 2304) :
    val_main_v117 (F := Ideal) x (ix5 b h t p k)
      = Ideal.div (val_main_v113 (F := Ideal) x (ix5 b h t p k)) (val_main_v114 (F := Ideal) x (ix4 b h t p)) := by
  pointwise [val_main_v117, val_main_v116, val_main_v115]

theorem soft_first (b h : Fin 8) (p : Fin 2048) (k : Fin 2304) :
    val_main_v119 (F := Ideal) x (ix4 b h p k) = val_main_v117 (F := Ideal) x (ix5 b h 0 p k) := by
  pointwise [val_main_v119, val_main_v118]

theorem soft_second (b h : Fin 8) (p : Fin 2048) (k : Fin 2304) :
    val_main_v121 (F := Ideal) x (ix4 b h p k) = val_main_v117 (F := Ideal) x (ix5 b h 1 p k) := by
  pointwise [val_main_v121, val_main_v120]

theorem lam_spread (b h : Fin 8) (p : Fin 2048) (k : Fin 2304) :
    val_main_v122 (F := Ideal) w (ix4 b h p k) = val_main_v103 (F := Ideal) w ix0 := by
  pointwise [val_main_v122]

/-- The mixed weights: the first softmax less `λ` times the second. -/
theorem mix_apply (b h : Fin 8) (p : Fin 2048) (k : Fin 2304) :
    val_main_v124 (F := Ideal) x w (ix4 b h p k)
      = val_main_v117 (F := Ideal) x (ix5 b h 0 p k) - val_main_v103 (F := Ideal) w ix0 * val_main_v117 (F := Ideal) x (ix5 b h 1 p k) := by
  rw [val_main_v124_apply, val_main_v123_apply, soft_first, soft_second, lam_spread, Ideal.subf_def, Ideal.mulf_def]

theorem out_apply (b h : Fin 8) (p : Fin 2048) (d : Fin 128) :
    val_main_v125 (F := Ideal) x w (ix4 b h p d)
      = ∑ k : Fin 2304, val_main_v124 (F := Ideal) x w (ix4 b h p k) * val_main_v105 (F := Ideal) x (ix4 b h k d) := by
  pointwise [val_main_v125]

/-! ## The norm of each head, and the rows of the result -/

theorem square_apply (b h : Fin 8) (p : Fin 2048) (d : Fin 128) :
    val_main_v126 (F := Ideal) x w (ix4 b h p d) = val_main_v125 (F := Ideal) x w (ix4 b h p d) * val_main_v125 (F := Ideal) x w (ix4 b h p d) := by
  rw [val_main_v126_apply, Ideal.mulf_def]

theorem square_sum (b h : Fin 8) (p : Fin 2048) :
    val_main_v128 (F := Ideal) x w (ix4 b h p 0) = ∑ d : Fin 128, val_main_v126 (F := Ideal) x w (ix4 b h p d) := by
  pointwise [val_main_v128, val_main_v127, val_main_cst_9]

theorem count_apply (b h : Fin 8) (p : Fin 2048) : val_main_v129 (F := Ideal) (ix4 b h p 0) = Ideal.ofBits .f32 0x43000000#32 := by
  pointwise [val_main_v129, val_main_cst_10]

theorem eps_apply (b h : Fin 8) (p : Fin 2048) : val_main_v131 (F := Ideal) (ix4 b h p 0) = Ideal.ofBits .f32 0x358637BD#32 := by
  pointwise [val_main_v131, val_main_cst_11]

theorem post_apply (b : Fin 8) (p : Fin 2048) (n : Fin 1024) : val_main_v138 (F := Ideal) (ix3 b p n) = Ideal.ofBits .f32 0x3F24FD5C#32 := by
  pointwise [val_main_v138, val_main_cst_12]

/-- One over the root of a head's mean square. -/
theorem root_apply (b h : Fin 8) (p : Fin 2048) :
    val_main_v133 (F := Ideal) x w (ix4 b h p 0)
      = Ideal.rsqrt (Ideal.div (∑ d : Fin 128, val_main_v125 (F := Ideal) x w (ix4 b h p d) * val_main_v125 (F := Ideal) x w (ix4 b h p d)) (Ideal.ofBits .f32 0x43000000#32)
          + Ideal.ofBits .f32 0x358637BD#32) := by
  rw [val_main_v133_apply, val_main_v132_apply, val_main_v130_apply, square_sum, count_apply, eps_apply, Ideal.hostUnary_rsqrt_def, Ideal.addf_def, Ideal.hostDivf_def]
  simp only [square_apply]

theorem root_spread (b h : Fin 8) (p : Fin 2048) (d : Fin 128) :
    val_main_v134 (F := Ideal) x w (ix4 b h p d) = val_main_v133 (F := Ideal) x w (ix4 b h p 0) := by
  pointwise [val_main_v134]

theorem merge_apply (b h : Fin 8) (p : Fin 2048) (d : Fin 128) :
    val_main_v137 (F := Ideal) x w (ix3 b p ⟨128 * h + d, by omega⟩) = val_main_v135 (F := Ideal) x w (ix4 b h p d) := by
  pointwise [val_main_v137, val_main_v136]

/-- A latent token's row of the result, head by head. -/
theorem latent_apply (b h : Fin 8) (p : Fin 2048) (d : Fin 128) :
    val_main_v139 (F := Ideal) x w (ix3 b p ⟨128 * h + d, by omega⟩)
      = val_main_v125 (F := Ideal) x w (ix4 b h p d)
          * Ideal.rsqrt (Ideal.div (∑ d : Fin 128, val_main_v125 (F := Ideal) x w (ix4 b h p d) * val_main_v125 (F := Ideal) x w (ix4 b h p d)) (Ideal.ofBits .f32 0x43000000#32)
              + Ideal.ofBits .f32 0x358637BD#32)
          * Ideal.ofBits .f32 0x3F24FD5C#32 := by
  rw [val_main_v139_apply, merge_apply, val_main_v135_apply, root_spread, root_apply, post_apply, Ideal.mulf_def, Ideal.mulf_def]

/-- The result's rows: zeros in the context tokens' rows, the attention in the latent tokens'. -/
theorem res_apply (r : Fin 18432) (n : Fin 1024) :
    val_main_v143 (F := Ideal) x w (ix2 r n)
      = if _ : r.val % 2304 < 256 then 0 else val_main_v139 (F := Ideal) x w (ix3 ⟨r / 2304, by omega⟩ ⟨r % 2304 - 256, by omega⟩ n) := by
  pointwise [val_main_v143, val_main_v142, val_main_v141, val_main_v140, val_main_cst_13]

/-! ## The mixing weight and the tables -/

theorem lam_apply : val_main_v103 (F := Ideal) w ix0
    = Ideal.exp (∑ d : Fin 64, w (ix3 0 0 d) * w (ix3 0 1 d)) - Ideal.exp (∑ d : Fin 64, w (ix3 0 2 d) * w (ix3 0 3 d))
      + Ideal.ofBits .f32 0x3EB60549#32 := by
  pointwise [val_main_v103, val_main_cst_5, val_main_v102, val_main_v101, val_main_v100, val_main_v99, val_main_v98, val_main_v97, val_main_v96, val_main_v95, val_main_v94, val_main_v93, val_main_v92, val_main_v91, val_main_v90, val_main_v89, val_main_v88, val_main_v87, val_main_cst_3, val_main_cst_4]

theorem word_first (p : Fin 2048) : val_main_v16 (F := Ideal) (ix1 p) = BitVec.ofNat 32 (p.val / 64) := by
  have h : ∀ p : Fin 2048, val_main_v16 (F := Ideal) (ix1 p) = BitVec.ofNat 32 (p.val / 64) := by decide +kernel
  exact h p

theorem word_second (p : Fin 2048) : val_main_v17 (F := Ideal) (ix1 p) = BitVec.ofNat 32 (p.val % 64) := by
  have h : ∀ p : Fin 2048, val_main_v17 (F := Ideal) (ix1 p) = BitVec.ofNat 32 (p.val % 64) := by decide +kernel
  exact h p

theorem cos_apply (p : Fin 2048) (a : Fin 2) (f : Fin 16) : C p a f = (Real.cos (Diff.angR p a f) : EReal) := by
  rw [← Ideal.cos_coe, ← Diff.ang_eq]
  unfold C Diff.ang Diff.word
  pointwise [val_main_v27, val_main_v26, val_main_v25, val_main_v24, val_main_v23, val_main_v22, val_main_v21, val_main_v20, val_main_v19, val_main_v18, val_main_v14, val_main_v13, val_main_v12, val_main_v11, val_main_v10, val_main_v9, val_main_cst, val_main_cst_0]
  rw [word_first, word_second]
  split_ifs <;> rfl

theorem sin_apply (p : Fin 2048) (a : Fin 2) (f : Fin 16) : S p a f = (Real.sin (Diff.angR p a f) : EReal) := by
  rw [← Ideal.sin_coe, ← Diff.ang_eq]
  unfold S Diff.ang Diff.word
  pointwise [val_main_v28, val_main_v26, val_main_v25, val_main_v24, val_main_v23, val_main_v22, val_main_v21, val_main_v20, val_main_v19, val_main_v18, val_main_v14, val_main_v13, val_main_v12, val_main_v11, val_main_v10, val_main_v9, val_main_cst, val_main_cst_0]
  rw [word_first, word_second]
  split_ifs <;> rfl

/-- The rotation of real lanes is real. -/
theorem turn_real (p : Fin 2048) (y : Fin 64 → ℝ) (d : Fin 64) :
    turn (C p) (S p) (fun e => (y e : EReal)) d = (Diff.turnR p y d : EReal) := by
  unfold turn Diff.turnR Diff.mate
  by_cases hd : d.val / 16 % 2 < 1
  · rw [dif_pos hd, if_pos hd, if_pos hd, cos_apply, sin_apply, ← EReal.coe_mul, ← EReal.coe_mul, ← EReal.coe_sub]
    refine congrArg _ ?_
    rw [sub_eq_add_neg, neg_one_mul, mul_neg]
    have : (⟨(d.val + 16) % 64, by omega⟩ : Fin 64) = ⟨d + 16, by omega⟩ := Fin.ext (by simp; omega)
    rw [this]
  · rw [dif_neg hd, if_neg hd, if_neg hd, cos_apply, sin_apply, ← EReal.coe_mul, ← EReal.coe_mul, ← EReal.coe_add, one_mul]

/-! ## The result over real entries -/

section
variable (X : Diff.SX.Idx → ℝ) (hx : ∀ i, x i = (X i : EReal))
include hx

/-- The scores, in the reference's order of the keys. -/
theorem score_real (b h : Fin 8) (t : Fin 2) (p : Fin 2048) (k : Fin 2304) :
    val_main_v106 (F := Ideal) x (ix5 b h t p k) = (Diff.sR X b h t p (Diff.place k) : EReal) := by
  rw [score_apply]
  unfold Diff.sR Diff.scoreR
  rw [← Diff.coe_sum]
  refine Finset.sum_congr rfl fun d _ => ?_
  rw [qr_apply, key_apply, Diff.eighth_bits, EReal.coe_mul, EReal.coe_mul]
  refine congrArg₂ (· * ·) (congrArg (· * _) ?_) ?_
  · rw [← turn_real]
    refine congrArg (fun y => turn (C p) (S p) y d) (funext fun e => ?_)
    rw [q_apply, hx]
    rfl
  · unfold Diff.rowR
    have hv := Diff.place_val k
    by_cases hk : k.val < 2048
    · rw [if_pos hk] at hv
      rw [dif_pos hk, if_neg (by omega), kr_apply]
      have e : ((Diff.place k).val - 256) = (⟨k.val, hk⟩ : Fin 2048).val := by simp; omega
      rw [e, ← turn_real]
      refine congrArg (fun y => turn (C _) (S _) y d) (funext fun e => ?_)
      rw [k_apply, hx]
      refine congrArg (fun i => (X i : EReal)) ((ix2_inj ..).2 ⟨Fin.ext (by simp; omega), rfl⟩)
    · rw [if_neg hk] at hv
      rw [dif_neg hk, if_pos (by omega), kc_apply, hx]
      refine congrArg (fun i => (X i : EReal)) ((ix2_inj ..).2 ⟨Fin.ext (by simp; omega), rfl⟩)

/-- The values, in the reference's order. -/
theorem val_real (b h : Fin 8) (k : Fin 2304) (l : Fin 128) :
    val_main_v105 (F := Ideal) x (ix4 b h k l) = (Diff.vR X b h (Diff.place k) l : EReal) := by
  rw [val_apply]
  unfold Diff.vR
  have hv := Diff.place_val k
  by_cases hk : k.val < 2048
  · rw [if_pos hk] at hv
    rw [dif_pos hk, v_apply, hx]
    refine congrArg (fun i => (X i : EReal)) ((ix2_inj ..).2 ⟨Fin.ext (by simp; omega), rfl⟩)
  · rw [if_neg hk] at hv
    rw [dif_neg hk, vc_apply, hx]
    refine congrArg (fun i => (X i : EReal)) ((ix2_inj ..).2 ⟨Fin.ext (by simp; omega), rfl⟩)

/-- Each part's weights are the softmax of its scores. -/
theorem soft_real (b h : Fin 8) (t : Fin 2) (p : Fin 2048) (k : Fin 2304) :
    val_main_v117 (F := Ideal) x (ix5 b h t p k) = (Diff.softR (Diff.sR X b h t p) (Diff.place k) : EReal) := by
  have ht : ∃ M : ℝ, val_main_v109 (F := Ideal) x (ix4 b h t p) = (M : EReal) := by
    obtain ⟨M, hM⟩ := Diff.fold_real fun k => Diff.sR X b h t p (Diff.place k)
    refine ⟨M, ?_⟩
    rw [top_apply, Diff.low_bits]
    simp only [score_real x X hx]
    rw [hM]
    exact max_eq_right bot_le
  obtain ⟨M, hM⟩ := ht
  rw [soft_apply, sum_apply]
  simp only [exp_apply, hM, score_real x X hx]
  rw [Diff.soft_exp (fun k => Diff.sR X b h t p (Diff.place k)) M k, Diff.soft_place]

/-- A head's output before its norm. -/
theorem out_real (b h : Fin 8) (p : Fin 2048) (l : Fin 128) :
    val_main_v125 (F := Ideal) x w (ix4 b h p l) = Diff.out X (val_main_v103 (F := Ideal) w ix0) b h p l := by
  rw [out_apply]
  unfold Diff.out
  refine Eq.trans ?_ (Equiv.sum_comp Diff.place fun k => Diff.mix X (val_main_v103 (F := Ideal) w ix0) b h p k * (Diff.vR X b h k l : EReal))
  refine Finset.sum_congr rfl fun k _ => ?_
  rw [mix_apply, soft_real x X hx, soft_real x X hx, val_real x X hx]
  rfl

/-- The reference's result. -/
theorem res_real : val_main_v143 (F := Ideal) x w = Diff.result X (val_main_v103 (F := Ideal) w ix0) := by
  funext j
  idx_vars j
  rw [res_apply]
  unfold Diff.result
  by_cases hr : j0.val % 2304 < 256
  · rw [dif_pos hr]
    refine Eq.trans ?_ (dif_pos hr).symm
    rfl
  · rw [dif_neg hr]
    refine Eq.trans ?_ (dif_neg hr).symm
    have hn : j1 = ⟨128 * (⟨j1.val / 128, by omega⟩ : Fin 8) + (⟨j1.val % 128, by omega⟩ : Fin 128), by simp; omega⟩ := Fin.ext (by simp; omega)
    rw [hn, latent_apply]
    simp only [out_real x w X hx]
    rw [← hn]
    rfl

end

end Cert.ReferenceIdeal.Diff

end
-- ==== Proof.DiffFinal.lean ====
module

public import proofs.«01_k».proof.Defs
public import proofs.«01_k».proof.Proof.DiffBlocks
public import proofs.«01_k».proof.Proof.DiffKernel
public import proofs.«01_k».proof.Proof.DiffTables
public import proofs.«01_k».proof.Proof.DiffRef
public import proofs.«01_k».proof.Proof.Gen.ReferenceIdeal.Run
public import proofs.«01_k».proof.Proof.Gen.Pre_finite
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Diff

open Cert.KernelIdeal Cert.KernelIdeal.Gen Cert.KernelIdeal.Value

variable (m : (ℓ : Loc nD τ sig) → Buf (Elt Ideal) ℓ)

/-- Reading the one entry of an array of one entry. -/
theorem ld_first (v : Vec Ideal S1 .f32) (h : 0 < (Rect.unit (s := S1) ![0] ![1] inb_S1_S1_0).shape.numel) :
    View.ld v (Rect.unit ![0] ![1] inb_S1_S1_0) (Shape.Idx.first h) = v (ix1 0) :=
  congrArg v (funext fun a => by
    match a with
    | 0 => exact Subsingleton.elim (α := Fin 1) _ _)

/-- The scalar a point reads is the difference of the exponentials. -/
theorem ld_lam (c : Dev nD) (t : Fin cfg0.N) (h : 0 < (Rect.unit (s := S1) ![0] ![1] inb_S1_S1_0).shape.numel) :
    View.ld (show Vec Ideal S1 .f32 from iblk m c 0 t) (Rect.unit ![0] ![1] inb_S1_S1_0) (Shape.Idx.first h) = lam (m ((c : Thread nD τ).loc main_arg1)) :=
  (ld_first _ h).trans ((blk0 m c t).trans (lam_at m c))

section
variable (c : Dev nD) (X : Diff.SX.Idx → ℝ) (hx : ∀ i, (m ((c : Thread nD τ).loc main_arg0) : Vec Ideal S18432x8192 .bf16) i = (X i : EReal))
include hx

/-- The batch and the head of grid point `t`. -/
def batch (t : Fin cfg0.N) : Fin 8 := ⟨t.val / 72, by have := count t; omega⟩
def head (t : Fin cfg0.N) : Fin 8 := ⟨t.val / 9 % 8, by omega⟩

/-- Lane `d` of part `s` of the keys computed at point `t`. -/
theorem key_real (t : Fin cfg0.N) (p : Fin 2304) (s : Fin 2) (d : Fin 64) :
    k0_pay4 (F := Ideal) (iblk m c 2 t) (iblk m c 6 t) (iblk m c 7 t) (ix2 p ⟨64 * s + d, by omega⟩)
      = (Diff.rowR p (Diff.kR X (batch t) (head t) s p) d : EReal) := by
  refine Eq.trans (k_apply _ _ _ p _) ?_
  refine Eq.trans ?_ (Diff.lane_real p (fun l => (X (ix2 ⟨2304 * (t.val / 72) + p, by have := count t; omega⟩ ⟨1024 + (128 * (t.val / 9 % 8) + l), by omega⟩) : EReal)) _ s (fun d => rfl) d)
  unfold Diff.lane
  rw [← cos_at m c p, ← sin_at m c p]
  refine congrArg₂ (· + ·) (congrArg₂ (· * ·) ?_ (blk6 m c t p _)) (congrArg₂ (· * ·) ?_ (blk7 m c t p _))
  · exact (blk2 m c t p _).trans (hx _)
  · split_ifs
    · exact (blk2 m c t p _).trans (hx _)
    · exact (blk2 m c t p _).trans (hx _)

/-- Lane `d` of part `s` of the queries computed at point `t`. -/
theorem query_real (t : Fin cfg0.N) (r : Fin 256) (s : Fin 2) (d : Fin 64) :
    k0_pay5 (F := Ideal) (iblk m c 1 t) (iblk m c 4 t) (iblk m c 5 t) (ix2 r ⟨64 * s + d, by omega⟩)
      = (Diff.rowR (256 * (t.val % 9) + r) (Diff.qR X (batch t) (head t) s ⟨256 * (t.val % 9) + r, by omega⟩) d : EReal) * (Diff.scale : EReal) := by
  refine Eq.trans (q_apply _ _ _ r _) ?_
  refine congrArg (· * (Diff.scale : EReal)) ?_
  refine Eq.trans ?_ (Diff.lane_real (256 * (t.val % 9) + r) (fun l => (X (ix2 ⟨2304 * (t.val / 72) + (256 * (t.val % 9) + r), by have := count t; omega⟩ ⟨128 * (t.val / 9 % 8) + l, by omega⟩) : EReal)) _ s (fun d => rfl) d)
  unfold Diff.lane
  rw [← cos_at m c ⟨256 * (t.val % 9) + r, by omega⟩, ← sin_at m c ⟨256 * (t.val % 9) + r, by omega⟩]
  refine congrArg₂ (· + ·) (congrArg₂ (· * ·) ?_ (blk4 m c t r _)) (congrArg₂ (· * ·) ?_ (blk5 m c t r _))
  · exact (blk1 m c t r _).trans (hx _)
  · split_ifs
    · exact (blk1 m c t r _).trans (hx _)
    · exact (blk1 m c t r _).trans (hx _)

/-- The values computed at point `t`. -/
theorem value_real (t : Fin cfg0.N) (p : Fin 2304) (l : Fin 128) :
    k0_pay1 (F := Ideal) (iblk m c 3 t) (ix2 p l) = (Diff.vR X (batch t) (head t) p l : EReal) := by
  refine Eq.trans ?_ ((blk3 m c t p l).trans (hx _))
  pointwise [k0_pay1]

/-- The scores of a row of queries against the keys a scratch holds. -/
theorem score_real (t t' : Fin cfg0.N) (hb : batch t' = batch t) (hh : head t' = head t) (h0 : ¬t.val % 9 = 0) (r : Fin 256) (s : Fin 2) (p : Fin 2304) :
    (∑ l : Fin 128, if l.val / 64 = s.val then
        k0_pay5 (F := Ideal) (iblk m c 1 t) (iblk m c 4 t) (iblk m c 5 t) (ix2 r l) * k0_pay4 (F := Ideal) (iblk m c 2 t') (iblk m c 6 t') (iblk m c 7 t') (ix2 p l) else 0)
      = ((Diff.sR X (batch t) (head t) s ⟨256 * (t.val % 9) + r - 256, by omega⟩ p * (Real.log 2)⁻¹ : ℝ) : EReal) := by
  rw [Diff.half_sum s]
  unfold Diff.sR
  rw [← Diff.scoreK_real]
  refine Finset.sum_congr rfl fun d _ => ?_
  rw [query_real m c X hx, key_real m c X hx, hb, hh]
  have e : 256 + (256 * (t.val % 9) + r.val - 256) = 256 * (t.val % 9) + r.val := by omega
  simp only [e]

/-- The weights of a row of queries. -/
theorem weight_real (t t' : Fin cfg0.N) (hb : batch t' = batch t) (hh : head t' = head t) (h0 : ¬t.val % 9 = 0) (la : EReal) (r : Fin 256) (p : Fin 2304) :
    k0_pay8 (F := Ideal) la (k0_pay5 (F := Ideal) (iblk m c 1 t) (iblk m c 4 t) (iblk m c 5 t)) (iota Kind.tc S256x128 32 [1] iota_S256x128_d1_w32)
        (k0_pay4 (F := Ideal) (iblk m c 2 t') (iblk m c 6 t') (iblk m c 7 t')) k0_pay6 k0_pay7 (ix2 r p)
      = Diff.mix X la (batch t) (head t) ⟨256 * (t.val % 9) + r - 256, by omega⟩ p := by
  rw [w_apply]
  simp only [score_real m c X hx t t' hb hh h0]
  rw [Diff.mixK_real]
  rfl

/-- What a point that is not a head's first leaves in its block: the heads' normed outputs. -/
theorem point_real (t t' : Fin cfg0.N) (hb : batch t' = batch t) (hh : head t' = head t) (h0 : ¬t.val % 9 = 0) (la : EReal) (r : Fin 256) (l : Fin 128) :
    k0_pay3 (F := Ideal) (k0_pay8 (F := Ideal) la (k0_pay5 (F := Ideal) (iblk m c 1 t) (iblk m c 4 t) (iblk m c 5 t)) (iota Kind.tc S256x128 32 [1] iota_S256x128_d1_w32)
        (k0_pay4 (F := Ideal) (iblk m c 2 t') (iblk m c 6 t') (iblk m c 7 t')) k0_pay6 k0_pay7) (k0_pay1 (F := Ideal) (iblk m c 3 t')) (ix2 r l)
      = Diff.norm (Diff.out X la (batch t) (head t) ⟨256 * (t.val % 9) + r - 256, by omega⟩) l := by
  rw [o_apply]
  simp only [weight_real m c X hx t t' hb hh h0, value_real m c X hx, hb, hh]
  rfl

/-- The same from whatever the scratches hold, when they hold the keys and values of a point of the same head. -/
theorem point_held (t t' : Fin cfg0.N) (hb : batch t' = batch t) (hh : head t' = head t) (h0 : ¬t.val % 9 = 0) (la : EReal) (ks vs : Vec Ideal S2304x128 .bf16)
    (hl : la = lam (m ((c : Thread nD τ).loc main_arg1)))
    (hk : ks = k0_pay4 (F := Ideal) (iblk m c 2 t') (iblk m c 6 t') (iblk m c 7 t')) (hv : vs = k0_pay1 (F := Ideal) (iblk m c 3 t')) (r : Fin 256) (l : Fin 128) :
    k0_pay3 (F := Ideal) (k0_pay8 (F := Ideal) la (k0_pay5 (F := Ideal) (iblk m c 1 t) (iblk m c 4 t) (iblk m c 5 t)) (iota Kind.tc S256x128 32 [1] iota_S256x128_d1_w32)
        ks k0_pay6 k0_pay7) vs (ix2 r l)
      = Diff.norm (Diff.out X (lam (m ((c : Thread nD τ).loc main_arg1))) (batch t) (head t) ⟨256 * (t.val % 9) + r - 256, by omega⟩) l := by
  subst hl hk hv
  exact point_real m c X hx t t' hb hh h0 _ r l

set_option maxHeartbeats 2000000 in
/-- The result array after the run is the attention of the argument. -/
theorem final : (dats m 0 c).arrAt 8 cfg0.N = Diff.result X (lam (m ((c : Thread nD τ).loc main_arg1))) := by
  refine (dats m 0 c).arrAt_eq_of_covers 8 _ (by decide +kernel) fun t hf y => ?_
  blk_simp
  rw [after0_8]
  have ht := count t
  have hi := (idx t).2.2.2.2.2.2.2.2
  by_cases h0 : t.val % 9 = 0
  · rw [outsAt0_A m c t h0 (by omega)]
    frame_out
    idx_vars y
    have e : ((View.whole main_v55).slice (win0_8.rect t)).emb (ix2 y0 y1) = (ix2 ⟨256 * (t.val / 72 * 9 + t.val % 9) + y0, by omega⟩ ⟨128 * (t.val / 9 % 8) + y1, by omega⟩ : S18432x1024.Idx) := by
      blk_point [idx t]
    rw [e]
    refine Eq.trans ?_ (dif_pos (show (256 * (t.val / 72 * 9 + t.val % 9) + y0.val) % 2304 < 256 by omega)).symm
    pointwise [k0_pay2]
  · rw [outsAt0_B m c t h0 (by omega)]
    frame_out
    idx_vars y
    have e : ((View.whole main_v55).slice (win0_8.rect t)).emb (ix2 y0 y1) = (ix2 ⟨256 * (t.val / 72 * 9 + t.val % 9) + y0, by omega⟩ ⟨128 * (t.val / 9 % 8) + y1, by omega⟩ : S18432x1024.Idx) := by
      blk_point [idx t]
    rw [e]
    refine Eq.trans ?_ (dif_neg (show ¬(256 * (t.val / 72 * 9 + t.val % 9) + y0.val) % 2304 < 256 by omega)).symm
    simp only [read_unread_whole]
    have hk := keys_held m c ⟨t.val - 1, by omega⟩
    have hv := vals_held m c ⟨t.val - 1, by omega⟩
    refine (point_held m c X hx t ⟨9 * ((t.val - 1) / 9), Pipeline.run_start_lt (⟨t.val - 1, by omega⟩ : Fin cfg0.N)⟩ (Fin.ext ?_) (Fin.ext ?_) h0 _ _ _ (ld_lam m c t _) hk hv y0 y1).trans ?_
    · show 9 * ((t.val - 1) / 9) / 72 = t.val / 72
      omega
    · show 9 * ((t.val - 1) / 9) / 9 % 8 = t.val / 9 % 8
      omega
    have e1 : (256 * (t.val / 72 * 9 + t.val % 9) + y0.val) / 2304 = t.val / 72 := by omega
    have e2 : (256 * (t.val / 72 * 9 + t.val % 9) + y0.val) % 2304 = 256 * (t.val % 9) + y0.val := by omega
    have e3 : (128 * (t.val / 9 % 8) + y1.val) / 128 = t.val / 9 % 8 := by omega
    have e4 : (128 * (t.val / 9 % 8) + y1.val) % 128 = y1.val := by omega
    simp only [e1, e2, e3, e4, batch, head, ix2]

end

end Cert.KernelIdeal.Diff

namespace Cert.Proof.Diff

/-- Where the precondition holds, every entry of the array is a real number. -/
theorem real_of_finite (x : Vec Ideal Cert.Pre_finite.S18432x8192 .bf16) (w : Vec Ideal Cert.Pre_finite.S1x4x64 .f32)
    (h : Cert.Pre_finite.fn (F := Ideal) x w = fun _ => 1#1) (i : Cert.Pre_finite.S18432x8192.Idx) : x i = ((x i : EReal).toReal : EReal) := by
  have hi := congrFun h i
  have e : Cert.Pre_finite.fn (F := Ideal) x w i = if max (x i : EReal) (-(x i : EReal)) < Ideal.ofBits .f32 0x7F800000#32 then 1#1 else 0#1 := by
    show BitVec.ofBool (decide _) = _
    by_cases hc : max (x i : EReal) (-(x i : EReal)) < Ideal.ofBits .f32 0x7F800000#32
    · rw [if_pos hc]
      exact congrArg BitVec.ofBool (decide_eq_true hc)
    · rw [if_neg hc]
      exact congrArg BitVec.ofBool (decide_eq_false hc)
  rw [e, Cert.Diff.high_bits] at hi
  have hlt : max (x i : EReal) (-(x i : EReal)) < ⊤ := by
    by_contra hn
    rw [if_neg hn] at hi
    exact absurd hi (by decide)
  refine (EReal.coe_toReal ?_ ?_).symm
  · exact ne_of_lt (lt_of_le_of_lt (le_max_left _ _) hlt)
  · intro hb
    rw [hb] at hlt
    simp at hlt

/-- With exact arithmetic the fused kernel leaves what the plain differential attention leaves, on finite arrays. -/
theorem algebraic : Cert.algebraic_KernelIdeal_ReferenceIdeal_pre_finite := by
  pair_intro
  · run_from Cert.KernelIdeal.Value.run_blocks m g
  · run_from Cert.ReferenceIdeal.Value.run m' g'
    rw [Cert.KernelIdeal.Diff.final m c (fun i => (m ((c.tc : Thread Cert.KernelIdeal.nD Cert.KernelIdeal.τ).loc Cert.KernelIdeal.main_arg0) i : EReal).toReal) (fun i => real_of_finite _ _ (hpre c) i)]
    refine (Cert.ReferenceIdeal.Read.val_main_v143_eq (StableHlo.launchContents m' c)).trans ?_
    refine (Cert.ReferenceIdeal.Diff.res_real _ _ (fun i => (m ((c.tc : Thread Cert.KernelIdeal.nD Cert.KernelIdeal.τ).loc Cert.KernelIdeal.main_arg0) i : EReal).toReal) ?_).trans ?_
    · exact fun i => (congrFun (hagree c).1 i).trans (real_of_finite _ _ (hpre c) i)
    · exact congrArg _ ((Cert.ReferenceIdeal.Diff.lam_apply _).trans (congrArg Cert.KernelIdeal.Diff.lam (hagree c).2))

end Cert.Proof.Diff

end
-- ==== Proof.ProjEven.lean ====
module

public import proofs.«01_k».proof.Defs
public import proofs.«01_k».proof.Proof.Gen.Kernel2Ideal.Value
public import proofs.«01_k».proof.Proof.Gen.Reference2Ideal.Read
public import proofs.«01_k».proof.Proof.Gen.Reference2Ideal.Run
public import Idealize.ShloMosaic.Lib.Pipeline.ValueKit
public import Idealize.ShloMosaic.Lib.Claim
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen Cert.Kernel2Ideal.Value

variable (m : (ℓ : Loc nD τ sig) → Buf (Elt Ideal) ℓ)

/-- The projection as one function of the rows `h` and the layer's weights `w`: entry `(r, n)` is the product of row `r` of
    `h` with column `n` of the weights. -/
def PROJ (h : Vec Ideal S18432x2048 .bf16) (w : Vec Ideal S1x2048x9216 .f32) : Vec Ideal S18432x9216 .bf16 :=
  fun j => ∑ k : Fin 2048, h (ix2 (j 0) k) * w (ix3 0 k (j 1))

/-- One block's result at row `r` and column `n`: row `r` of the block of `h` times column `n` of the block of weights. -/
theorem pay_apply (x : Vec Ideal S2304x2048 .bf16) (w : Vec Ideal S2048x512 .bf16) (r : Fin 2304) (n : Fin 512) :
    k0_pay1 (F := Ideal) x w (ix2 r n) = ∑ k : Fin 2048, x (ix2 r k) * w (ix2 k n) := by
  pointwise [k0_pay1]

/-- Where each window's block lies at grid point `t`. -/
theorem idx : ∀ t : Fin cfg0.N, win0_0.index t = ![(win0_2.index t) 0, 0] ∧ win0_1.index t = ![0, (win0_2.index t) 1] :=
  (by decide +kernel : ∀ t : Fin grid0.N, _)

/-- The weights the grid reads: the layer's slice of the argument. -/
theorem weights (c : Dev nD) (k : Fin 2048) (n : Fin 9216) :
    (V m c main_v1 : Vec Ideal S2048x9216 .bf16) (ix2 k n) = (m ((c : Thread nD τ).loc main_arg1) : Vec Ideal S1x2048x9216 .f32) (ix3 0 k n) := by
  unfold V
  after_reads_at

/-- The result array after the run is the projection of the two arguments. -/
theorem final (c : Dev nD) : (dats m 0 c).arrAt 2 cfg0.N = PROJ (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply]
  unfold PROJ
  blk_point [iblk, V, idx t]

end Cert.Kernel2Ideal.Proj

namespace Cert.Reference2Ideal.Proj

open Cert.Reference2Ideal Cert.Reference2Ideal.Gen

/-- The reference's result at row `r` and column `n`: row `r` of `h` times column `n` of the weights. -/
theorem ref_apply (h : Vec Ideal S18432x2048 .bf16) (w : Vec Ideal S1x2048x9216 .f32) (r : Fin 18432) (n : Fin 9216) :
    Read.val_main_v3 (F := Ideal) h w (ix2 r n) = ∑ k : Fin 2048, h (ix2 r k) * w (ix3 0 k n) := by
  pointwise [Read.val_main_v3, Read.val_main_v2, Read.val_main_v1, Read.val_main_v0]

end Cert.Reference2Ideal.Proj

namespace Cert.Proof.ProjEven

/-- With exact arithmetic the even layer's projection kernel leaves what the plain product leaves. -/
theorem algebraic : Cert.algebraic_Kernel2Ideal_Reference2Ideal := by
  pair_intro
  · run_from Cert.Kernel2Ideal.Value.run_blocks m g
  · run_from Cert.Reference2Ideal.Value.run m' g'
    rw [Cert.Kernel2Ideal.Proj.final m c]
    funext j
    idx_vars j
    exact Cert.Reference2Ideal.Proj.ref_apply _ _ j0 j1

end Cert.Proof.ProjEven

end
-- ==== Proof.ProjOdd.lean ====
module

public import proofs.«01_k».proof.Defs
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Claim
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Kernel3Ideal.Value

variable (m : (ℓ : Loc nD τ sig) → Buf (Elt Ideal) ℓ)

/-- The projection as one function of the rows `h` and the layer's weights `w`: entry `(r, n)` is the product of row `r` of
    `h` with column `n` of the weights. -/
def PROJ (h : Vec Ideal S18432x2048 .bf16) (w : Vec Ideal S1x2048x8192 .f32) : Vec Ideal S18432x8192 .bf16 :=
  fun j => ∑ k : Fin 2048, h (ix2 (j 0) k) * w (ix3 0 k (j 1))

/-- One block's result at row `r` and column `n`: row `r` of the block of `h` times column `n` of the block of weights. -/
theorem pay_apply (x : Vec Ideal S2304x2048 .bf16) (w : Vec Ideal S2048x512 .bf16) (r : Fin 2304) (n : Fin 512) :
    k0_pay1 (F := Ideal) x w (ix2 r n) = ∑ k : Fin 2048, x (ix2 r k) * w (ix2 k n) := by
  pointwise [k0_pay1]

/-- Where each window's block lies at grid point `t`. -/
theorem idx : ∀ t : Fin cfg0.N, win0_0.index t = ![(win0_2.index t) 0, 0] ∧ win0_1.index t = ![0, (win0_2.index t) 1] :=
  (by decide +kernel : ∀ t : Fin grid0.N, _)

/-- The weights the grid reads: the layer's slice of the argument. -/
theorem weights (c : Dev nD) (k : Fin 2048) (n : Fin 8192) :
    (V m c main_v1 : Vec Ideal S2048x8192 .bf16) (ix2 k n) = (m ((c : Thread nD τ).loc main_arg1) : Vec Ideal S1x2048x8192 .f32) (ix3 0 k n) := by
  unfold V
  after_reads_at

/-- The result array after the run is the projection of the two arguments. -/
theorem final (c : Dev nD) : (dats m 0 c).arrAt 2 cfg0.N = PROJ (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  rw [pay_apply]
  unfold PROJ
  blk_point [iblk, V, idx t]

end Cert.Kernel3Ideal.Proj

namespace Cert.Reference3Ideal.Proj

open Cert.Reference3Ideal Cert.Reference3Ideal.Gen

/-- The reference's result at row `r` and column `n`: row `r` of `h` times column `n` of the weights. -/
theorem ref_apply (h : Vec Ideal S18432x2048 .bf16) (w : Vec Ideal S1x2048x8192 .f32) (r : Fin 18432) (n : Fin 8192) :
    Read.val_main_v3 (F := Ideal) h w (ix2 r n) = ∑ k : Fin 2048, h (ix2 r k) * w (ix3 0 k n) := by
  pointwise [Read.val_main_v3, Read.val_main_v2, Read.val_main_v1, Read.val_main_v0]

end Cert.Reference3Ideal.Proj

namespace Cert.Proof.ProjOdd

/-- With exact arithmetic the odd layer's projection kernel leaves what the plain product leaves. -/
theorem algebraic : Cert.algebraic_Kernel3Ideal_Reference3Ideal := by
  pair_intro
  · run_from Cert.Kernel3Ideal.Value.run_blocks m g
  · run_from Cert.Reference3Ideal.Value.run m' g'
    rw [Cert.Kernel3Ideal.Proj.final m c]
    funext j
    idx_vars j
    exact Cert.Reference3Ideal.Proj.ref_apply _ _ j0 j1

end Cert.Proof.ProjOdd

end
-- ==== Proof.OutSpec.lean ====
module

public import Idealize.ShloMosaic.PureOps
public import Idealize.ShloMosaic.PureOps.Ideal
public import Idealize.ShloMosaic.Lib.Pipeline.ValueKit
public import Idealize.ShloMosaic.Lib.Pointwise
public import Mathlib.Algebra.BigOperators.Fin

@[expose] public section

noncomputable section

open Idealize.ShloMosaic

namespace Cert.Out

/-! # The output projection's mathematics

Row `r` of the tokens belongs to image `r / 2304`; the first 256 rows of an image are context, which the modulation treats as
image 8. -/

/-- The image by whose modulation row `r` goes. -/
def sel (r : Fin 18432) : Fin 9 := if r.val % 2304 < 256 then 8 else ⟨r.val / 2304, by omega⟩

/-- The row of context token `p` of image `b`. -/
def contextRow (b : Fin 8) (p : Fin 256) : Fin 18432 := ⟨b.val * 2304 + p.val, by omega⟩

/-- The row of latent token `p` of image `b`. -/
def latentRow (b : Fin 8) (p : Fin 2048) : Fin 18432 := ⟨b.val * 2304 + (256 + p.val), by omega⟩

theorem sel_context (b : Fin 8) (p : Fin 256) : sel (contextRow b p) = 8 := by
  unfold sel
  rw [if_pos]
  show (b.val * 2304 + p.val) % 2304 < 256
  omega

theorem sel_latent (b : Fin 8) (p : Fin 2048) : sel (latentRow b p) = ⟨b.val, by omega⟩ := by
  unfold sel
  rw [if_neg]
  · apply Fin.ext
    show (b.val * 2304 + (256 + p.val)) / 2304 = b.val
    omega
  · show ¬(b.val * 2304 + (256 + p.val)) % 2304 < 256
    omega

/-- Every row is a context token's or a latent token's. -/
theorem row_cases (r : Fin 18432) : (∃ b p, r = contextRow b p) ∨ ∃ b p, r = latentRow b p := by
  by_cases h : r.val % 2304 < 256
  · exact .inl ⟨⟨r.val / 2304, by omega⟩, ⟨r.val % 2304, h⟩, Fin.ext (by show r.val = r.val / 2304 * 2304 + r.val % 2304; omega)⟩
  · exact .inr ⟨⟨r.val / 2304, by omega⟩, ⟨r.val % 2304 - 256, by omega⟩, Fin.ext (by show r.val = r.val / 2304 * 2304 + (256 + (r.val % 2304 - 256)); omega)⟩

/-- The even layer's projection of the two mixers' rows. -/
def prodEven (x0 : (⟨2, ![18432, 1024]⟩ : Shape).Idx → EReal) (x1 : (⟨2, ![18432, 2048]⟩ : Shape).Idx → EReal) (x2 : (⟨3, ![1, 3072, 2048]⟩ : Shape).Idx → EReal)
    (r : Fin 18432) (n : Fin 2048) : EReal :=
  (∑ k : Fin 1024, x0 (ix2 r k) * x2 (ix3 0 ⟨k.val, by omega⟩ n)) + ∑ k : Fin 2048, x1 (ix2 r k) * x2 (ix3 0 ⟨1024 + k.val, by omega⟩ n)

/-- The odd layer's projection of the two mixers' rows. -/
def prodOdd (x0 x1 : (⟨2, ![18432, 1024]⟩ : Shape).Idx → EReal) (x2 : (⟨3, ![1, 2048, 2048]⟩ : Shape).Idx → EReal) (r : Fin 18432) (n : Fin 2048) : EReal :=
  (∑ k : Fin 1024, x0 (ix2 r k) * x2 (ix3 0 ⟨k.val, by omega⟩ n)) + ∑ k : Fin 1024, x1 (ix2 r k) * x2 (ix3 0 ⟨1024 + k.val, by omega⟩ n)

/-- The new token: the old one plus the gate times the projection. -/
def tok (x y : Fin 18432 → Fin 2048 → EReal) (g : Fin 9 → Fin 2048 → EReal) (r : Fin 18432) (n : Fin 2048) : EReal :=
  x r n + g (sel r) n * y r n

/-- One over the root mean square of a row. -/
def inv (t : Fin 2048 → EReal) : EReal :=
  Ideal.rsqrt (Ideal.div (∑ k : Fin 2048, t k * t k) (Ideal.ofBits .f32 0x45000000#32) + Ideal.ofBits .f32 0x358637BD#32)

/-- The normalised and modulated row. -/
def hid (t w s b : Fin 2048 → EReal) (n : Fin 2048) : EReal := t n * inv t * w n * (1 + s n) + b n

/-- The router's table: 4 columns of group weights, 32 of expert weights, then zeros. -/
def table (g : Fin 4 → EReal) (e : Fin 32 → EReal) (j : Fin 128) : EReal :=
  if h : j.val < 4 then g ⟨j.val, h⟩ else if h' : j.val < 36 then e ⟨j.val - 4, by omega⟩ else 0

/-- One logit: a group's, an expert's, or the padding's zero. -/
def logit (h : Fin 2048 → EReal) (gw : Fin 2048 → Fin 4 → EReal) (ew : Fin 2048 → Fin 32 → EReal) (gb : Fin 4 → EReal) (eb : Fin 32 → EReal)
    (j : Fin 128) : EReal :=
  table (fun j => (∑ k, h k * gw k j) + gb j) (fun j => (∑ k, h k * ew k j) + eb j) j

/-- The same logit as the tables give it. -/
theorem logit_table (h : Fin 2048 → EReal) (gw : Fin 2048 → Fin 4 → EReal) (ew : Fin 2048 → Fin 32 → EReal) (gb : Fin 4 → EReal) (eb : Fin 32 → EReal)
    (j : Fin 128) : logit h gw ew gb eb j = (∑ k, h k * table (gw k) (ew k) j) + table gb eb j := by
  unfold logit table
  by_cases c : j.val < 4
  · simp [c]
  · by_cases c' : j.val < 36
    · simp [c, c']
    · simp [c, c']

/-- A norm's weight times one plus a scale. -/
def factor (w s : EReal) : EReal := w * (1 + s)

/-! ## The three results of a call, as functions of its arrays

`y` is the projection, `l` the layer. -/

variable (l : Fin 2) (y : Fin 18432 → Fin 2048 → EReal) (x3 : (⟨2, ![18432, 2048]⟩ : Shape).Idx → EReal)
  (x4 x5 x6 : (⟨3, ![9, 1, 2048]⟩ : Shape).Idx → EReal) (x7 : (⟨2, ![2, 2048]⟩ : Shape).Idx → EReal)
  (x8 : (⟨3, ![2, 2048, 4]⟩ : Shape).Idx → EReal) (x9 : (⟨2, ![2, 4]⟩ : Shape).Idx → EReal)
  (x10 : (⟨3, ![2, 2048, 32]⟩ : Shape).Idx → EReal) (x11 : (⟨2, ![2, 32]⟩ : Shape).Idx → EReal)

/-- The tokens. -/
def rowTok (r : Fin 18432) (n : Fin 2048) : EReal := tok (fun r n => x3 (ix2 r n)) y (fun i n => x4 (ix3 i 0 n)) r n

/-- The normalised and modulated tokens. -/
def rowHid (r : Fin 18432) (n : Fin 2048) : EReal :=
  hid (rowTok y x3 x4 r) (fun k => x7 (ix2 l k)) (fun k => x5 (ix3 (sel r) 0 k)) (fun k => x6 (ix3 (sel r) 0 k)) n

/-- The router's logits. -/
def rowLogit (r : Fin 18432) (j : Fin 128) : EReal :=
  logit (rowHid l y x3 x4 x5 x6 x7 r) (fun k j => x8 (ix3 l k j)) (fun k j => x10 (ix3 l k j)) (fun j => x9 (ix2 l j)) (fun j => x11 (ix2 l j)) j

/-! ## Rows of real numbers -/

/-- An entry is a real number. -/
def IsReal (x : EReal) : Prop := ∃ r : ℝ, x = (r : EReal)

theorem real_add {x y : EReal} (hx : IsReal x) (hy : IsReal y) : IsReal (x + y) := by
  obtain ⟨a, rfl⟩ := hx
  obtain ⟨b, rfl⟩ := hy
  exact ⟨a + b, (EReal.coe_add a b).symm⟩

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_sum {ι : Type} (s : Finset ι) (f : ι → EReal) (hf : ∀ i, IsReal (f i)) : IsReal (∑ i ∈ s, f i) := by
  classical
  induction s using Finset.induction_on with
  | empty => exact ⟨0, by simp⟩
  | insert a s ha ih =>
    rw [Finset.sum_insert ha]
    exact real_add (hf a) ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_sub_self {x : EReal} (hx : IsReal x) : x - x = 0 := by
  obtain ⟨a, rfl⟩ := hx
  rw [← EReal.coe_sub, sub_self, EReal.coe_zero]

theorem width_bits : Ideal.ofBits .f32 0x45000000#32 = ((2048 : ℝ) : EReal) := by
  simp [Ideal.ofBits, Ideal.ieee, -EReal.coe_mul]; norm_num

theorem one_bits : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  rw [h, EReal.coe_one]

theorem eps_bits : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- The reciprocal root of a row of real numbers is a real number. -/
theorem real_inv {t : Fin 2048 → EReal} (ht : ∀ k, IsReal (t k)) : IsReal (inv t) := by
  choose a ha using ht
  obtain ⟨e, he, hb⟩ := eps_bits
  have hsum : (∑ k : Fin 2048, t k * t k) = ((∑ k : Fin 2048, a k * a k : ℝ) : EReal) := by
    rw [coe_sum]
    exact Finset.sum_congr rfl fun k _ => by rw [ha k, EReal.coe_mul]
  have hn : 0 ≤ ∑ k : Fin 2048, a k * a k := Finset.sum_nonneg fun k _ => mul_self_nonneg _
  have hp : 0 < (∑ k : Fin 2048, a k * a k) * (1 / 2048) + e := by positivity
  unfold inv
  rw [hsum, width_bits, hb, Ideal.div_coe (by norm_num), ← EReal.coe_mul, ← EReal.coe_add, Ideal.rsqrt_coe, if_neg (not_lt.2 hp.le), if_neg hp.ne']
  exact ⟨_, rfl⟩

theorem real_one : IsReal 1 := ⟨1, rfl⟩

/-- The square of an extended real number is not negative. -/
theorem square_nonneg (x : EReal) : 0 ≤ x * x := by
  rcases le_total 0 x with h | h
  · exact mul_nonneg h h
  · have := mul_nonneg (EReal.neg_nonneg.2 h) (EReal.neg_nonneg.2 h)
    rwa [neg_mul_neg] at this

/-- A row with an infinite entry has an infinite mean square, so its factor is zero. -/
theorem inv_infinite {t : Fin 2048 → EReal} {k : Fin 2048} (hk : ¬ IsReal (t k)) : inv t = 0 := by
  have hsq : t k * t k = ⊤ := by
    generalize t k = x at hk
    induction x with
    | bot => exact EReal.bot_mul_bot
    | coe r => exact absurd ⟨r, rfl⟩ hk
    | top => exact EReal.top_mul_top
  obtain ⟨e, he, hb⟩ := eps_bits
  have hsum : (∑ k : Fin 2048, t k * t k) = ⊤ :=
    top_le_iff.1 (hsq ▸ Finset.single_le_sum (f := fun k => t k * t k) (fun i _ => square_nonneg (t i)) (Finset.mem_univ k))
  unfold inv
  rw [hsum, width_bits, hb, Ideal.div_coe (by norm_num), EReal.top_mul_coe_of_pos (by norm_num), EReal.top_add_coe, Ideal.rsqrt_top]

/-- A normalised entry is a real number whatever the row holds. -/
theorem real_norm (t : Fin 2048 → EReal) (n : Fin 2048) : IsReal (t n * inv t) := by
  by_cases h : ∀ k, IsReal (t k)
  · exact real_mul (h n) (real_inv h)
  · obtain ⟨k, hk⟩ := not_forall.1 h
    rw [inv_infinite hk, mul_zero]
    exact ⟨0, rfl⟩

theorem real_hid {t w s b : Fin 2048 → EReal} (hw : ∀ k, IsReal (w k)) (hs : ∀ k, IsReal (s k)) (hb : ∀ k, IsReal (b k))
    (n : Fin 2048) : IsReal (hid t w s b n) :=
  real_add (real_mul (real_mul (real_norm t n) (hw n)) (real_add real_one (hs n))) (hb n)

theorem real_table {g : Fin 4 → EReal} {e : Fin 32 → EReal} (hg : ∀ j, IsReal (g j)) (he : ∀ j, IsReal (e j)) (j : Fin 128) : IsReal (table g e j) := by
  unfold table
  split
  · exact hg _
  · split
    · exact he _
    · exact ⟨0, rfl⟩

/-- On real numbers the product kept in two halves is the plain product: both low halves are zero. -/
theorem halves (h W : Fin 2048 → EReal) (hh : ∀ k, IsReal (h k)) (hW : ∀ k, IsReal (W k)) :
    (∑ k, h k * W k) + (∑ k, h k * (W k - W k)) + (∑ k, (h k - h k) * W k) = ∑ k, h k * W k := by
  have e1 : (∑ k, h k * (W k - W k)) = 0 := Finset.sum_eq_zero fun k _ => by rw [real_sub_self (hW k), mul_zero]
  have e2 : (∑ k, (h k - h k) * W k) = 0 := Finset.sum_eq_zero fun k _ => by rw [real_sub_self (hh k), zero_mul]
  rw [e1, e2, add_zero, add_zero]

variable {l y x3 x4 x5 x6 x7 x8 x10}

theorem real_rowHid (h5 : ∀ i, IsReal (x5 i)) (h6 : ∀ i, IsReal (x6 i)) (h7 : ∀ i, IsReal (x7 i)) (r : Fin 18432) (n : Fin 2048) : IsReal (rowHid l y x3 x4 x5 x6 x7 r n) :=
  real_hid (fun _ => h7 _) (fun _ => h5 _) (fun _ => h6 _) n

/-- The logits from the table and the rows kept in two halves, on real numbers. -/
theorem rowLogit_halves (h5 : ∀ i, IsReal (x5 i)) (h6 : ∀ i, IsReal (x6 i)) (h7 : ∀ i, IsReal (x7 i)) (h8 : ∀ i, IsReal (x8 i)) (h10 : ∀ i, IsReal (x10 i)) (r : Fin 18432) (j : Fin 128)
    (h W b : Fin 2048 → EReal) (c : EReal) (eh : ∀ k, h k = rowHid l y x3 x4 x5 x6 x7 r k)
    (eW : ∀ k, W k = table (fun j => x8 (ix3 l k j)) (fun j => x10 (ix3 l k j)) j) (eb : ∀ k, b k = W k - W k)
    (ec : c = table (fun j => x9 (ix2 l j)) (fun j => x11 (ix2 l j)) j) :
    (∑ k, h k * W k) + (∑ k, h k * b k) + (∑ k, (h k - h k) * W k) + c = rowLogit l y x3 x4 x5 x6 x7 x8 x9 x10 x11 r j := by
  obtain rfl : b = fun k => W k - W k := funext eb
  obtain rfl : h = rowHid l y x3 x4 x5 x6 x7 r := funext eh
  obtain rfl := funext eW
  subst ec
  rw [halves _ _ (real_rowHid h5 h6 h7 r) fun k => real_table (fun _ => h8 _) (fun _ => h10 _) j]
  exact (logit_table _ _ _ _ _ j).symm

/-! ## Blocks of rows -/

/-- Row `r` of block `t`. -/
def blockRow (t : Fin 64) (r : Fin 288) : Fin 18432 := ⟨t.val * 288 + r.val, by omega⟩

theorem image_lt (t : Fin 64) : t.val / 8 < 9 := by omega

theorem sel_block (t : Fin 64) (r : Fin 288) :
    sel (blockRow t r) = if (t.val * 288 + r.val) % 2304 < 256 then 8 else ⟨t.val / 8, by omega⟩ := by
  unfold sel
  show (if (t.val * 288 + r.val) % 2304 < 256 then 8 else _) = _
  by_cases h : (t.val * 288 + r.val) % 2304 < 256
  · rw [if_pos h, if_pos h]
  · rw [if_neg h, if_neg h]
    apply Fin.ext
    show (t.val * 288 + r.val) / 2304 = t.val / 8
    omega

/-- A choice by the context bit is a choice of image. -/
theorem select_image (t : Fin 64) (r : Fin 288) (b : BitVec 1) (hb : b = if (t.val * 288 + r.val) % 2304 < 256 then 1#1 else 0#1)
    (f : Fin 9 → EReal) (x z : EReal) (hx : x = f 8) (hz : z = f ⟨t.val / 8, by omega⟩) : Scalar.select b x z = f (sel (blockRow t r)) := by
  rw [sel_block, hb, hx, hz]
  by_cases h : (t.val * 288 + r.val) % 2304 < 256
  · rw [if_pos h, if_pos h]
    rfl
  · rw [if_neg h, if_neg h]
    rfl

/-- The new tokens as a block gives them. -/
theorem tok_of_block (r : Fin 18432) (n : Fin 2048) (x g p q : EReal) (hx : x = x3 (ix2 r n)) (hg : g = x4 (ix3 (sel r) 0 n)) (hp : p + q = y r n) :
    x + g * (p + q) = rowTok y x3 x4 r n := by
  rw [hp, hx, hg]
  rfl

/-- The modulated tokens as a block gives them: the norm's weight and the scale are multiplied beforehand. -/
theorem hid_of_block (r : Fin 18432) (n : Fin 2048) (t : Fin 2048 → EReal) (f b : EReal) (ht : ∀ k, t k = rowTok y x3 x4 r k)
    (hf : f = factor (x7 (ix2 l n)) (x5 (ix3 (sel r) 0 n))) (hb : b = x6 (ix3 (sel r) 0 n)) :
    t n * inv t * f + b = rowHid l y x3 x4 x5 x6 x7 r n := by
  obtain rfl : t = rowTok y x3 x4 r := funext ht
  rw [hf, hb]
  unfold rowHid hid factor
  rw [mul_assoc (_ * _)]

/-! ## Arrays of finite numbers -/

theorem high_bits : Ideal.ofBits .f32 0x7F800000#32 = ⊤ := by
  simp [Ideal.ofBits, Ideal.ieee]

/-- Where an array's test for a size below infinity holds everywhere, its entries are real numbers. -/
theorem real_of_test {s : Shape} (x : s.Idx → EReal) (f : s.Idx → BitVec 1)
    (e : ∀ i, f i = BitVec.ofBool (decide (max (x i) (-(x i)) < Ideal.ofBits .f32 0x7F800000#32))) (h : f = fun _ => 1#1) (i : s.Idx) : IsReal (x i) := by
  have hi := (e i).symm.trans (congrFun h i)
  rw [high_bits] at hi
  have hlt : max (x i) (-(x i)) < ⊤ := by
    by_contra hn
    rw [decide_eq_false hn] at hi
    exact absurd hi (by decide)
  refine ⟨(x i).toReal, (EReal.coe_toReal ?_ ?_).symm⟩
  · exact ne_of_lt (lt_of_le_of_lt (le_max_left _ _) hlt)
  · intro hb
    rw [hb] at hlt
    simp at hlt

end Cert.Out

end
-- ==== Proof.OutEvenRef.lean ====
module

public import proofs.«01_k».proof.Proof.Gen.Reference4Ideal.Read
public import proofs.«01_k».proof.Proof.OutSpec
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Reference4Ideal.Out

open Cert.Reference4Ideal Cert.Reference4Ideal.Gen Cert.Reference4Ideal.Read

variable (x0 : Vec Ideal S18432x1024 .bf16) (x1 : Vec Ideal S18432x2048 .bf16) (x2 : Vec Ideal S1x3072x2048 .f32)
  (x3 : Vec Ideal S18432x2048 .f32) (x4 x5 x6 : Vec Ideal S9x1x2048 .f32) (x7 : Vec Ideal S2x2048 .f32)
  (x8 : Vec Ideal S2x2048x4 .f32) (x9 : Vec Ideal S2x4 .f32) (x10 : Vec Ideal S2x2048x32 .f32) (x11 : Vec Ideal S2x32 .f32)

/-- The projection at an entry: the two mixers' parts of the sum. -/
theorem prod_apply (r : Fin 18432) (n : Fin 2048) : val_main_v3 (F := Ideal) x0 x1 x2 (ix2 r n) = Cert.Out.prodEven x0 x1 x2 r n := by
  unfold Cert.Out.prodEven
  pointwise [val_main_v3, val_main_v2, val_main_v1, val_main_v0]

/-- A latent token's new value. -/
theorem latent_tok (b : Fin 8) (p : Fin 2048) (n : Fin 2048) :
    val_main_v17 (F := Ideal) x0 x1 x2 x3 x4 (ix3 b p n)
      = x3 (ix2 (Cert.Out.latentRow b p) n) + x4 (ix3 ⟨b.val, by omega⟩ 0 n) * val_main_v3 (F := Ideal) x0 x1 x2 (ix2 (Cert.Out.latentRow b p) n) := by
  unfold val_main_v17 val_main_v16 val_main_v15 val_main_v14 val_main_v4
  generalize val_main_v3 (F := Ideal) x0 x1 x2 = y
  unfold Cert.Out.latentRow
  pointwise [val_main_v7, val_main_v5, val_main_v8]

/-- A context token's new value. -/
theorem context_tok (b : Fin 8) (p : Fin 256) (n : Fin 2048) :
    val_main_v42 (F := Ideal) x0 x1 x2 x3 x4 (ix3 b p n)
      = x3 (ix2 (Cert.Out.contextRow b p) n) + x4 (ix3 8 0 n) * val_main_v3 (F := Ideal) x0 x1 x2 (ix2 (Cert.Out.contextRow b p) n) := by
  unfold val_main_v42 val_main_v41 val_main_v40 val_main_v39 val_main_v4
  generalize val_main_v3 (F := Ideal) x0 x1 x2 = y
  unfold Cert.Out.contextRow
  pointwise [val_main_v6, val_main_v5, val_main_v11]

/-- A latent token's normalised and modulated value. -/
theorem latent_hid (b : Fin 8) (p : Fin 2048) (n : Fin 2048) :
    val_main_v38 (F := Ideal) x0 x1 x2 x3 x4 x5 x6 x7 (ix3 b p n)
      = Cert.Out.hid (fun k => val_main_v17 (F := Ideal) x0 x1 x2 x3 x4 (ix3 b p k)) (fun k => x7 (ix2 0 k)) (fun k => x5 (ix3 ⟨b.val, by omega⟩ 0 k))
          (fun k => x6 (ix3 ⟨b.val, by omega⟩ 0 k)) n := by
  unfold val_main_v38 val_main_v36 val_main_v32 val_main_v29 val_main_v28 val_main_v27 val_main_v26 val_main_v24 val_main_v22 val_main_v21 val_main_v20
  generalize val_main_v17 (F := Ideal) x0 x1 x2 x3 x4 = t
  unfold Cert.Out.hid Cert.Out.inv
  rw [← Cert.Out.one_bits]
  pointwise [val_main_v37, val_main_v35, val_main_v34, val_main_v33, val_main_cst_2, val_main_v31, val_main_v30, val_main_v19, val_main_v18, val_main_v25,
    val_main_cst_1, val_main_v23, val_main_cst_0, val_main_cst, val_main_v10, val_main_v9]

/-- A context token's normalised and modulated value. -/
theorem context_hid (b : Fin 8) (p : Fin 256) (n : Fin 2048) :
    val_main_v63 (F := Ideal) x0 x1 x2 x3 x4 x5 x6 x7 (ix3 b p n)
      = Cert.Out.hid (fun k => val_main_v42 (F := Ideal) x0 x1 x2 x3 x4 (ix3 b p k)) (fun k => x7 (ix2 0 k)) (fun k => x5 (ix3 8 0 k))
          (fun k => x6 (ix3 8 0 k)) n := by
  unfold val_main_v63 val_main_v61 val_main_v57 val_main_v54 val_main_v53 val_main_v52 val_main_v51 val_main_v49 val_main_v47 val_main_v46 val_main_v45
  generalize val_main_v42 (F := Ideal) x0 x1 x2 x3 x4 = t
  unfold Cert.Out.hid Cert.Out.inv
  rw [← Cert.Out.one_bits]
  pointwise [val_main_v62, val_main_v60, val_main_v59, val_main_v58, val_main_cst_6, val_main_v56, val_main_v55, val_main_v44, val_main_v43, val_main_v50,
    val_main_cst_5, val_main_v48, val_main_cst_4, val_main_cst_3, val_main_v13, val_main_v12]

/-- The joined array at a context row. -/
theorem join_context (u : Vec Ideal S8x256x2048 .f32) (v : Vec Ideal S8x2048x2048 .f32) (b : Fin 8) (p : Fin 256) (n : Fin 2048) :
    shapeCast S18432x2048 (concatenate S8x2304x2048 1 [⟨S8x256x2048, u⟩, ⟨S8x2048x2048, v⟩] concatenates_S8x256x2048_S8x2048x2048_S8x2304x2048_d1)
      shapeCasts_S8x2304x2048_S18432x2048 (ix2 (Cert.Out.contextRow b p) n) = u (ix3 b p n) := by
  have e : (b.val * 2304 + p.val) % 2304 = p.val := by omega
  unfold Cert.Out.contextRow
  pointwise []
  rw [dif_pos (by omega)]
  exact congrArg (fun q => u (ix3 b q n)) (Fin.ext e)

/-- The joined array at a latent row. -/
theorem join_latent (u : Vec Ideal S8x256x2048 .f32) (v : Vec Ideal S8x2048x2048 .f32) (b : Fin 8) (p : Fin 2048) (n : Fin 2048) :
    shapeCast S18432x2048 (concatenate S8x2304x2048 1 [⟨S8x256x2048, u⟩, ⟨S8x2048x2048, v⟩] concatenates_S8x256x2048_S8x2048x2048_S8x2304x2048_d1)
      shapeCasts_S8x2304x2048_S18432x2048 (ix2 (Cert.Out.latentRow b p) n) = v (ix3 b p n) := by
  have e : (b.val * 2304 + (256 + p.val)) % 2304 - 256 = p.val := by omega
  unfold Cert.Out.latentRow
  pointwise []
  rw [dif_neg (by omega)]
  exact congrArg (fun q => v (ix3 b q n)) (Fin.ext e)

/-- The tokens' rows, as a function of the arguments. -/
def T : Fin 18432 → Fin 2048 → EReal :=
  Cert.Out.rowTok (Cert.Out.prodEven x0 x1 x2) x3 x4

/-- The modulated rows, as a function of the arguments. -/
def H (r : Fin 18432) : Fin 2048 → EReal :=
  Cert.Out.rowHid 0 (Cert.Out.prodEven x0 x1 x2) x3 x4 x5 x6 x7 r

theorem latent_T (b : Fin 8) (p : Fin 2048) (n : Fin 2048) :
    val_main_v17 (F := Ideal) x0 x1 x2 x3 x4 (ix3 b p n) = T x0 x1 x2 x3 x4 (Cert.Out.latentRow b p) n := by
  rw [latent_tok, prod_apply]
  unfold T Cert.Out.rowTok Cert.Out.tok
  rw [Cert.Out.sel_latent]

theorem context_T (b : Fin 8) (p : Fin 256) (n : Fin 2048) :
    val_main_v42 (F := Ideal) x0 x1 x2 x3 x4 (ix3 b p n) = T x0 x1 x2 x3 x4 (Cert.Out.contextRow b p) n := by
  rw [context_tok, prod_apply]
  unfold T Cert.Out.rowTok Cert.Out.tok
  rw [Cert.Out.sel_context]

/-- The reference's first result. -/
theorem tok_apply (r : Fin 18432) (n : Fin 2048) : val_main_v85 (F := Ideal) x0 x1 x2 x3 x4 (ix2 r n) = T x0 x1 x2 x3 x4 r n := by
  unfold val_main_v85 val_main_v84
  rcases Cert.Out.row_cases r with ⟨b, p, rfl⟩ | ⟨b, p, rfl⟩
  · exact (join_context _ _ b p n).trans (context_T x0 x1 x2 x3 x4 b p n)
  · exact (join_latent _ _ b p n).trans (latent_T x0 x1 x2 x3 x4 b p n)

/-- The reference's second result. -/
theorem hid_apply (r : Fin 18432) (n : Fin 2048) :
    val_main_v65 (F := Ideal) x0 x1 x2 x3 x4 x5 x6 x7 (ix2 r n) = H x0 x1 x2 x3 x4 x5 x6 x7 r n := by
  unfold val_main_v65 val_main_v64 H Cert.Out.rowHid
  rcases Cert.Out.row_cases r with ⟨b, p, rfl⟩ | ⟨b, p, rfl⟩
  · refine (join_context _ _ b p n).trans ((context_hid x0 x1 x2 x3 x4 x5 x6 x7 b p n).trans ?_)
    rw [Cert.Out.sel_context, funext fun k => context_T x0 x1 x2 x3 x4 b p k]
    rfl
  · refine (join_latent _ _ b p n).trans ((latent_hid x0 x1 x2 x3 x4 x5 x6 x7 b p n).trans ?_)
    rw [Cert.Out.sel_latent, funext fun k => latent_T x0 x1 x2 x3 x4 b p k]
    rfl

/-- The three pieces of the logits at an entry. -/
theorem join_logits (u : Vec Ideal S18432x4 .f32) (v : Vec Ideal S18432x32 .f32) (z : Vec Ideal S18432x92 .f32) (r : Fin 18432) (j : Fin 128)
    (hz : ∀ i, z i = 0) :
    concatenate S18432x128 1 [⟨S18432x4, u⟩, ⟨S18432x32, v⟩, ⟨S18432x92, z⟩] concatenates_S18432x4_S18432x32_S18432x92_S18432x128_d1 (ix2 r j)
      = Cert.Out.table (fun j => u (ix2 r j)) (fun j => v (ix2 r j)) j := by
  unfold Cert.Out.table
  pointwise []
  exact dite_congr rfl (fun _ => rfl) fun _ => dite_congr (propext (by omega)) (fun _ => rfl) fun _ => hz _

/-- A group's logit. -/
theorem group_apply (r : Fin 18432) (j : Fin 4) : val_main_v73 (F := Ideal) x0 x1 x2 x3 x4 x5 x6 x7 x8 x9 (ix2 r j)
    = (∑ k : Fin 2048, H x0 x1 x2 x3 x4 x5 x6 x7 r k * x8 (ix3 0 k j)) + x9 (ix2 0 j) := by
  rw [← funext fun k => hid_apply x0 x1 x2 x3 x4 x5 x6 x7 r k]
  unfold val_main_v73 val_main_v68
  generalize val_main_v65 (F := Ideal) x0 x1 x2 x3 x4 x5 x6 x7 = h
  pointwise [val_main_v67, val_main_v66, val_main_v72, val_main_v71, val_main_v70, val_main_v69]

/-- An expert's logit. -/
theorem expert_apply (r : Fin 18432) (j : Fin 32) : val_main_v81 (F := Ideal) x0 x1 x2 x3 x4 x5 x6 x7 x10 x11 (ix2 r j)
    = (∑ k : Fin 2048, H x0 x1 x2 x3 x4 x5 x6 x7 r k * x10 (ix3 0 k j)) + x11 (ix2 0 j) := by
  rw [← funext fun k => hid_apply x0 x1 x2 x3 x4 x5 x6 x7 r k]
  unfold val_main_v81 val_main_v76
  generalize val_main_v65 (F := Ideal) x0 x1 x2 x3 x4 x5 x6 x7 = h
  pointwise [val_main_v75, val_main_v74, val_main_v80, val_main_v79, val_main_v78, val_main_v77]

/-- The reference's third result. -/
theorem logits_apply (r : Fin 18432) (j : Fin 128) : val_main_v83 (F := Ideal) x0 x1 x2 x3 x4 x5 x6 x7 x8 x9 x10 x11 (ix2 r j)
    = Cert.Out.rowLogit 0 (Cert.Out.prodEven x0 x1 x2) x3 x4 x5 x6 x7 x8 x9 x10 x11 r j := by
  unfold val_main_v83
  refine (join_logits _ _ _ r j fun i => ?_).trans ?_
  · exact Ideal.ofBits_zero_f32
  · unfold Cert.Out.rowLogit Cert.Out.logit
    rw [funext fun j => group_apply x0 x1 x2 x3 x4 x5 x6 x7 x8 x9 r j, funext fun j => expert_apply x0 x1 x2 x3 x4 x5 x6 x7 x10 x11 r j]
    rfl

end Cert.Reference4Ideal.Out

end
-- ==== Proof.OutEvenMask.lean ====
module

public import proofs.«01_k».proof.Proof.Gen.Kernel4Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen

/-- The context rows of a block: row `r` of block `t` is row `288 t + r` of the array. -/
theorem mask_apply : ∀ (t : Fin cfg0.N) (r : Fin 288),
    k0_pay4 (grid0.coords t) (ix2 r 0) = if (t.val * 288 + r.val) % 2304 < 256 then 1#1 else 0#1 :=
  (by decide +kernel : ∀ (t : Fin grid0.N) (r : Fin 288), _)

end Cert.Kernel4Ideal.Out

end
-- ==== Proof.OutEvenBlocks.lean ====
module

public import proofs.«01_k».proof.Proof.Gen.Kernel4Ideal.Value
public import proofs.«01_k».proof.Proof.OutSpec
public import proofs.«01_k».proof.Proof.OutEvenMask
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen Cert.Kernel4Ideal.Value

/-- One block's new tokens. -/
theorem tok_block (x0 : Vec Ideal S288x1024 .bf16) (x1 : Vec Ideal S288x2048 .bf16) (x2 : Vec Ideal S1024x2048 .bf16) (x3 : Vec Ideal S2048x2048 .bf16)
    (x4 : Vec Ideal S288x2048 .f32) (x5 x6 : Vec Ideal S1x1x2048 .f32) (b : IVec S288x1 1) (r : Fin 288) (n : Fin 2048) :
    k0_pay6 (F := Ideal) (k0_pay3 x0 x2 x1 x3) b x4 (k0_pay5 x6) x5 (ix2 r n)
      = x4 (ix2 r n) + Scalar.select (b (ix2 r 0)) (x6 (ix3 0 0 n)) (x5 (ix3 0 0 n))
          * ((∑ k : Fin 1024, x0 (ix2 r k) * x2 (ix2 k n)) + ∑ k : Fin 2048, x1 (ix2 r k) * x3 (ix2 k n)) := by
  pointwise [k0_pay6, k0_pay3, k0_pay5]

/-- One block's normalised and modulated rows. -/
theorem hid_block (v8 x4 : Vec Ideal S288x2048 .f32) (v33 : Vec Ideal S1x2048 .f32) (x5 x7 x8 x9 x10 : Vec Ideal S1x1x2048 .f32) (b : IVec S288x1 1)
    (r : Fin 288) (n : Fin 2048) :
    k0_pay1 (F := Ideal) (k0_pay7 v8 b x4 v33 x5 x8 x7) (k0_pay8 x9) (k0_pay9 b) (k0_pay10 x10) (ix2 r n)
      = k0_pay6 (F := Ideal) v8 b x4 v33 x5 (ix2 r n) * Cert.Out.inv (fun k => k0_pay6 (F := Ideal) v8 b x4 v33 x5 (ix2 r k))
          * Scalar.select (b (ix2 r 0)) (x8 (ix3 0 0 n)) (x7 (ix3 0 0 n))
        + Scalar.select (b (ix2 r 0)) (x10 (ix3 0 0 n)) (x9 (ix3 0 0 n)) := by
  unfold k0_pay7 Cert.Out.inv
  generalize k0_pay6 (F := Ideal) v8 b x4 v33 x5 = t
  pointwise [k0_pay1, k0_pay8, k0_pay9, k0_pay10]

/-- One block's logits. -/
theorem logit_block (v67 : FVec Ideal S288x2048 .f32) (v71 : FVec Ideal S1x2048 .f32) (v73 : IVec S288x2048 1) (v74 : FVec Ideal S1x2048 .f32)
    (x11 x12 x11' : Vec Ideal S2048x128 .bf16) (x13 : Vec Ideal S1x128 .f32) (r : Fin 288) (j : Fin 128) :
    k0_pay2 (F := Ideal) v67 v71 v73 v74 x11 x12 x11' x13 (ix2 r j)
      = (∑ k : Fin 2048, k0_pay1 (F := Ideal) v67 v71 v73 v74 (ix2 r k) * x11 (ix2 k j))
          + (∑ k : Fin 2048, k0_pay1 (F := Ideal) v67 v71 v73 v74 (ix2 r k) * x12 (ix2 k j))
          + (∑ k : Fin 2048, (k0_pay1 (F := Ideal) v67 v71 v73 v74 (ix2 r k) - k0_pay1 (F := Ideal) v67 v71 v73 v74 (ix2 r k)) * x11' (ix2 k j))
          + x13 (ix2 0 j) := by
  unfold k0_pay2
  generalize k0_pay1 (F := Ideal) v67 v71 v73 v74 = h
  pointwise []

/-! ## A point's blocks as blocks of the whole arrays -/

section Point

variable (t : Fin cfg0.N) (r : Fin 288) (x0 : Vec Ideal S288x1024 .bf16) (x1 : Vec Ideal S288x2048 .bf16) (x2 : Vec Ideal S1024x2048 .bf16)
  (x3 : Vec Ideal S2048x2048 .bf16) (x4 : Vec Ideal S288x2048 .f32) (x5 x6 x7 x8 x9 x10 : Vec Ideal S1x1x2048 .f32)
  (a0 : Vec Ideal S18432x1024 .bf16) (a1 : Vec Ideal S18432x2048 .bf16) (a2 : Vec Ideal S1x3072x2048 .f32) (a3 : Vec Ideal S18432x2048 .f32)
  (a4 a5 a6 : Vec Ideal S9x1x2048 .f32) (a7 : Vec Ideal S2x2048 .f32)
  (h0 : ∀ k, x0 (ix2 r k) = a0 (ix2 (Cert.Out.blockRow t r) k)) (h1 : ∀ k, x1 (ix2 r k) = a1 (ix2 (Cert.Out.blockRow t r) k))
  (h2 : ∀ (k : Fin 1024) n, x2 (ix2 k n) = a2 (ix3 0 ⟨k.val, Nat.lt_of_lt_of_le k.isLt (Nat.le_of_ble_eq_true rfl)⟩ n))
  (h3 : ∀ (k : Fin 2048) n, x3 (ix2 k n) = a2 (ix3 0 ⟨1024 + k.val, Nat.add_lt_add_left k.isLt 1024⟩ n))
  (h4 : ∀ n, x4 (ix2 r n) = a3 (ix2 (Cert.Out.blockRow t r) n))
  (h5 : ∀ n, x5 (ix3 0 0 n) = a4 (ix3 ⟨t.val / 8, Cert.Out.image_lt t⟩ 0 n)) (h6 : ∀ n, x6 (ix3 0 0 n) = a4 (ix3 8 0 n))
  (h7 : ∀ n, x7 (ix3 0 0 n) = Cert.Out.factor (a7 (ix2 0 n)) (a5 (ix3 ⟨t.val / 8, Cert.Out.image_lt t⟩ 0 n)))
  (h8 : ∀ n, x8 (ix3 0 0 n) = Cert.Out.factor (a7 (ix2 0 n)) (a5 (ix3 8 0 n)))
  (h9 : ∀ n, x9 (ix3 0 0 n) = a6 (ix3 ⟨t.val / 8, Cert.Out.image_lt t⟩ 0 n)) (h10 : ∀ n, x10 (ix3 0 0 n) = a6 (ix3 8 0 n))

include h0 h1 h2 h3 h4 h5 h6

/-- A block's new tokens are the specified rows. -/
theorem tok_point (n : Fin 2048) :
    k0_pay6 (F := Ideal) (k0_pay3 x0 x2 x1 x3) (k0_pay4 (grid0.coords t)) x4 (k0_pay5 x6) x5 (ix2 r n)
      = Cert.Out.rowTok (Cert.Out.prodEven a0 a1 a2) a3 a4 (Cert.Out.blockRow t r) n := by
  refine (tok_block x0 x1 x2 x3 x4 x5 x6 _ r n).trans (Cert.Out.tok_of_block (Cert.Out.blockRow t r) n _ _ _ _ (h4 n) ?_ ?_)
  · exact Cert.Out.select_image t r _ (mask_apply t r) (fun i => a4 (ix3 i 0 n)) _ _ (h6 n) (h5 n)
  · exact congrArg₂ (fun a b : EReal => a + b)
      (Finset.sum_congr rfl fun k _ => congrArg₂ (fun a b : EReal => a * b) (h0 k) (h2 k n))
      (Finset.sum_congr rfl fun k _ => congrArg₂ (fun a b : EReal => a * b) (h1 k) (h3 k n))

include h7 h8 h9 h10

/-- A block's modulated tokens are the specified rows. -/
theorem hid_point (n : Fin 2048) :
    k0_pay1 (F := Ideal) (k0_pay7 (k0_pay3 x0 x2 x1 x3) (k0_pay4 (grid0.coords t)) x4 (k0_pay5 x6) x5 x8 x7) (k0_pay8 x9)
        (k0_pay9 (k0_pay4 (grid0.coords t))) (k0_pay10 x10) (ix2 r n)
      = Cert.Out.rowHid 0 (Cert.Out.prodEven a0 a1 a2) a3 a4 a5 a6 a7 (Cert.Out.blockRow t r) n := by
  refine (hid_block _ x4 _ x5 x7 x8 x9 x10 _ r n).trans (Cert.Out.hid_of_block (Cert.Out.blockRow t r) n _ _ _
    (tok_point t r x0 x1 x2 x3 x4 x5 x6 a0 a1 a2 a3 a4 h0 h1 h2 h3 h4 h5 h6) ?_ ?_)
  · exact Cert.Out.select_image t r _ (mask_apply t r) (fun i => Cert.Out.factor (a7 (ix2 0 n)) (a5 (ix3 i 0 n))) _ _ (h8 n) (h7 n)
  · exact Cert.Out.select_image t r _ (mask_apply t r) (fun i => a6 (ix3 i 0 n)) _ _ (h10 n) (h9 n)

variable (x11 x12 : Vec Ideal S2048x128 .bf16) (x13 : Vec Ideal S1x128 .f32)
  (a8 : Vec Ideal S2x2048x4 .f32) (a9 : Vec Ideal S2x4 .f32) (a10 : Vec Ideal S2x2048x32 .f32) (a11 : Vec Ideal S2x32 .f32)
  (h11 : ∀ k j, x11 (ix2 k j) = Cert.Out.table (fun j => a8 (ix3 0 k j)) (fun j => a10 (ix3 0 k j)) j)
  (h12 : ∀ k j, x12 (ix2 k j) = (fun t : EReal => t - t) (Cert.Out.table (fun j => a8 (ix3 0 k j)) (fun j => a10 (ix3 0 k j)) j))
  (h13 : ∀ j, x13 (ix2 0 j) = Cert.Out.table (fun j => a9 (ix2 0 j)) (fun j => a11 (ix2 0 j)) j)
  (f5 : ∀ i, Cert.Out.IsReal (a5 i)) (f6 : ∀ i, Cert.Out.IsReal (a6 i)) (f7 : ∀ i, Cert.Out.IsReal (a7 i))
  (f8 : ∀ i, Cert.Out.IsReal (a8 i)) (f10 : ∀ i, Cert.Out.IsReal (a10 i))

include h11 h12 h13 f5 f6 f7 f8 f10

/-- A block's logits are the specified rows, where the arrays are finite. -/
theorem logit_point (j : Fin 128) :
    k0_pay2 (F := Ideal) (k0_pay7 (k0_pay3 x0 x2 x1 x3) (k0_pay4 (grid0.coords t)) x4 (k0_pay5 x6) x5 x8 x7) (k0_pay8 x9)
        (k0_pay9 (k0_pay4 (grid0.coords t))) (k0_pay10 x10) x11 x12 x11 x13 (ix2 r j)
      = Cert.Out.rowLogit 0 (Cert.Out.prodEven a0 a1 a2) a3 a4 a5 a6 a7 a8 a9 a10 a11 (Cert.Out.blockRow t r) j :=
  (logit_block _ _ _ _ x11 x12 x11 x13 r j).trans
    (Cert.Out.rowLogit_halves a9 a11 f5 f6 f7 f8 f10 (Cert.Out.blockRow t r) j _ _ _ _
      (hid_point t r x0 x1 x2 x3 x4 x5 x6 x7 x8 x9 x10 a0 a1 a2 a3 a4 a5 a6 a7 h0 h1 h2 h3 h4 h5 h6 h7 h8 h9 h10) (fun k => h11 k j)
      (fun k => (h12 k j).trans (congrArg (fun t : EReal => t - t) (h11 k j).symm)) (h13 j))

end Point

end Cert.Kernel4Ideal.Out

end
-- ==== Proof.OutTables.lean ====
module

public import proofs.«01_k».proof.Proof.OutSpec
public import Idealize.ShloMosaic.Lib.Routing.OpsOne
public import Idealize.ShloMosaic.Lib.Pipeline.ValueKit

@[expose] public section

noncomputable section

open Idealize.ShloMosaic Idealize.ShloMosaic.Routing

namespace Cert.Out

/-! # Writing a block of columns into a table

`x.at[:, c : c + U].set(v)` and `x.at[0, c : c + U].set(v)` read at an entry. The output projection's router tables are built
by these. -/

/-- The dimension numbers of writing `U` whole columns from the column the one index word names. -/
def colsDims (A N U : Nat) (h : ScatterDims.WF (shape2 A N) (shape1 1) (shape2 A U) [0, 1] [] [1] 0) :
    ScatterDims (shape2 A N) (shape1 1) (shape2 A U) where
  updateWindowDims := [0, 1]
  insertedWindowDims := []
  scatterDimsToOperandDims := [1]
  indexVectorDim := 0
  wf := h

/-- Entry `(a, u)` of the columns lands at `(w, e)` exactly when `a` is `w` and `e` is `u` past the first column. -/
theorem lands_cols {A N U : Nat} (h : ScatterDims.WF (shape2 A N) (shape1 1) (shape2 A U) [0, 1] [] [1] 0)
    (idx : IVec (shape1 1) 32) (c : Nat) (hidx : (idx (ix1 0)).toInt = (c : Int)) (a w : Fin A) (u : Fin U) (e : Fin N) :
    (colsDims A N U h).resultIdx? (ix2 a u) idx = some (ix2 w e) ↔ a = w ∧ e.val = c + u.val := by
  have hw0 : (colsDims A N U h).window (ix2 a u) 0 = a.val := by
    unfold ScatterDims.window
    rw [dif_pos (by show (0 : Fin 2) ∈ [0, 1]; simp)]
    rfl
  have hw1 : (colsDims A N U h).window (ix2 a u) 1 = u.val := by
    unfold ScatterDims.window
    rw [dif_pos (by show (1 : Fin 2) ∈ [0, 1]; simp)]
    rfl
  have hs0 : (colsDims A N U h).start (ix2 a u) idx 0 = 0 := by
    unfold ScatterDims.start
    rw [dif_neg (by show (0 : Fin 2) ∉ [1]; simp)]
  have hs1 : (colsDims A N U h).start (ix2 a u) idx 1 = (c : Int) := by
    have hm : (1 : Fin 2) ∈ (colsDims A N U h).scatterDimsToOperandDims := List.mem_singleton.2 rfl
    unfold ScatterDims.start
    rw [dif_pos hm]
    have hsi : (colsDims A N U h).siIdx (ix2 a u) ⟨(colsDims A N U h).scatterDimsToOperandDims.idxOf 1, List.idxOf_lt_length_iff.2 hm⟩ = ix1 (0 : Fin 1) := by
      funext b'
      match b' with
      | ⟨0, _⟩ => exact Subsingleton.elim (α := Fin 1) _ _
    rw [hsi, hidx]
  have q := resultIdx?_ix2 (colsDims A N U h) (ix2 a u) idx w e
  rw [hs0, hw0, hs1, hw1] at q
  rw [Fin.ext_iff]
  refine q.trans ?_
  omega

/-- An entry inside the written columns. -/
theorem cols_hit {α : Type} {A N U : Nat} (h : ScatterDims.WF (shape2 A N) (shape1 1) (shape2 A U) [0, 1] [] [1] 0)
    (x : (shape2 A N).Idx → α) (idx : IVec (shape1 1) 32) (v : (shape2 A U).Idx → α) (c : Nat) (hidx : (idx (ix1 0)).toInt = (c : Int))
    (w : Fin A) (e : Fin N) (u : Fin U) (hu : e.val = c + u.val) :
    Host.scatter (colsDims A N U h) (fun _ b => b) x idx v (ix2 w e) = v (ix2 w u) := by
  refine scatter_set_hit _ x idx v _ _ (fun k hk => ?_) (ix2 w u) ((lands_cols h idx c hidx w w u e).2 ⟨rfl, hu⟩)
  obtain ⟨a, b, rfl⟩ : ∃ (a : Fin A) (b : Fin U), k = ix2 a b := ⟨k 0, k 1, eq_ix2 k⟩
  obtain ⟨rfl, hb⟩ := (lands_cols h idx c hidx a w b e).1 hk
  obtain rfl : b = u := Fin.ext (by omega)
  rfl

/-- An entry outside the written columns. -/
theorem cols_miss {α : Type} {A N U : Nat} (h : ScatterDims.WF (shape2 A N) (shape1 1) (shape2 A U) [0, 1] [] [1] 0)
    (x : (shape2 A N).Idx → α) (idx : IVec (shape1 1) 32) (v : (shape2 A U).Idx → α) (c : Nat) (hidx : (idx (ix1 0)).toInt = (c : Int))
    (w : Fin A) (e : Fin N) (he : e.val < c ∨ c + U ≤ e.val) :
    Host.scatter (colsDims A N U h) (fun _ b => b) x idx v (ix2 w e) = x (ix2 w e) := by
  refine scatter_set_miss _ x idx v _ (fun k hk => ?_)
  obtain ⟨a, b, rfl⟩ : ∃ (a : Fin A) (b : Fin U), k = ix2 a b := ⟨k 0, k 1, eq_ix2 k⟩
  obtain ⟨_, hb⟩ := (lands_cols h idx c hidx a w b e).1 hk
  have := b.isLt
  omega

/-- The dimension numbers of writing part of a row at the place the two index words name. -/
def rowDims (A N U : Nat) (h : ScatterDims.WF (shape2 A N) (shape1 2) (shape1 U) [0] [0] [0, 1] 0) :
    ScatterDims (shape2 A N) (shape1 2) (shape1 U) where
  updateWindowDims := [0]
  insertedWindowDims := [0]
  scatterDimsToOperandDims := [0, 1]
  indexVectorDim := 0
  wf := h

/-- Entry `u` of the row's part lands at `(w, e)` exactly when the first index word is `w` and `e` is `u` past the second. -/
theorem lands_row {A N U : Nat} (h : ScatterDims.WF (shape2 A N) (shape1 2) (shape1 U) [0] [0] [0, 1] 0)
    (idx : IVec (shape1 2) 32) (r c : Nat) (hr : (idx (ix1 0)).toInt = (r : Int)) (hc : (idx (ix1 1)).toInt = (c : Int)) (w : Fin A) (u : Fin U) (e : Fin N) :
    (rowDims A N U h).resultIdx? (ix1 u) idx = some (ix2 w e) ↔ w.val = r ∧ e.val = c + u.val := by
  have hw0 : (rowDims A N U h).window (ix1 u) 0 = 0 := by
    unfold ScatterDims.window
    rw [dif_neg (by show (0 : Fin 2) ∉ [1]; simp)]
  have hw1 : (rowDims A N U h).window (ix1 u) 1 = u.val := by
    unfold ScatterDims.window
    rw [dif_pos (by show (1 : Fin 2) ∈ [1]; simp)]
    rfl
  have hs0 : (rowDims A N U h).start (ix1 u) idx 0 = (r : Int) := (start_pair _ rfl rfl idx _ 0).trans hr
  have hs1 : (rowDims A N U h).start (ix1 u) idx 1 = (c : Int) := (start_pair _ rfl rfl idx _ 1).trans hc
  have q := resultIdx?_ix2 (rowDims A N U h) (ix1 u) idx w e
  rw [hs0, hw0, hs1, hw1] at q
  refine q.trans ?_
  omega

/-- An entry inside the written part. -/
theorem row_hit {α : Type} {A N U : Nat} (h : ScatterDims.WF (shape2 A N) (shape1 2) (shape1 U) [0] [0] [0, 1] 0)
    (x : (shape2 A N).Idx → α) (idx : IVec (shape1 2) 32) (v : (shape1 U).Idx → α) (r c : Nat) (hr : (idx (ix1 0)).toInt = (r : Int))
    (hc : (idx (ix1 1)).toInt = (c : Int)) (w : Fin A) (e : Fin N) (u : Fin U) (hw : w.val = r) (hu : e.val = c + u.val) :
    Host.scatter (rowDims A N U h) (fun _ b => b) x idx v (ix2 w e) = v (ix1 u) := by
  refine scatter_set_hit _ x idx v _ _ (fun k hk => ?_) (ix1 u) ((lands_row h idx r c hr hc w u e).2 ⟨hw, hu⟩)
  obtain ⟨b, rfl⟩ : ∃ b : Fin U, k = ix1 b := ⟨k 0, eq_ix1 k⟩
  obtain ⟨_, hb⟩ := (lands_row h idx r c hr hc w b e).1 hk
  obtain rfl : b = u := Fin.ext (by omega)
  rfl

/-- An entry outside the written part. -/
theorem row_miss {α : Type} {A N U : Nat} (h : ScatterDims.WF (shape2 A N) (shape1 2) (shape1 U) [0] [0] [0, 1] 0)
    (x : (shape2 A N).Idx → α) (idx : IVec (shape1 2) 32) (v : (shape1 U).Idx → α) (r c : Nat) (hr : (idx (ix1 0)).toInt = (r : Int))
    (hc : (idx (ix1 1)).toInt = (c : Int)) (w : Fin A) (e : Fin N) (he : e.val < c ∨ c + U ≤ e.val) :
    Host.scatter (rowDims A N U h) (fun _ b => b) x idx v (ix2 w e) = x (ix2 w e) := by
  refine scatter_set_miss _ x idx v _ (fun k hk => ?_)
  obtain ⟨b, rfl⟩ : ∃ b : Fin U, k = ix1 b := ⟨k 0, eq_ix1 k⟩
  obtain ⟨_, hb⟩ := (lands_row h idx r c hr hc w b e).1 hk
  have := b.isLt
  omega

/-- The router's table of weights: 4 columns, then 32, written into zeros. -/
theorem table_cols {A : Nat} (h : ScatterDims.WF (shape2 A 128) (shape1 1) (shape2 A 4) [0, 1] [] [1] 0)
    (h' : ScatterDims.WF (shape2 A 128) (shape1 1) (shape2 A 32) [0, 1] [] [1] 0) (x : (shape2 A 128).Idx → EReal) (hx : ∀ i, x i = 0)
    (idx idx' : IVec (shape1 1) 32) (hi : idx (ix1 0) = 0#32) (hi' : idx' (ix1 0) = 4#32) (u : (shape2 A 4).Idx → EReal) (v : (shape2 A 32).Idx → EReal)
    (k : Fin A) (j : Fin 128) :
    Host.scatter (colsDims A 128 32 h') (fun _ b => b) (Host.scatter (colsDims A 128 4 h) (fun _ b => b) x idx u) idx' v (ix2 k j)
      = table (fun j => u (ix2 k j)) (fun j => v (ix2 k j)) j := by
  have e : (idx (ix1 0)).toInt = ((0 : Nat) : Int) := by rw [hi]; rfl
  have e' : (idx' (ix1 0)).toInt = ((4 : Nat) : Int) := by rw [hi']; rfl
  unfold table
  by_cases c : j.val < 4
  · rw [dif_pos c]
    exact (cols_miss h' _ idx' v 4 e' k j (.inl c)).trans (cols_hit h x idx u 0 e k j ⟨j.val, c⟩ (Nat.zero_add _).symm)
  · rw [dif_neg c]
    by_cases c' : j.val < 36
    · rw [dif_pos c']
      exact cols_hit h' _ idx' v 4 e' k j ⟨j.val - 4, by omega⟩ (by show j.val = 4 + (j.val - 4); omega)
    · rw [dif_neg c']
      exact (cols_miss h' _ idx' v 4 e' k j (.inr (by omega))).trans ((cols_miss h x idx u 0 e k j (.inr (by omega))).trans (hx _))

/-- The router's row of biases: 4 entries, then 32, written into zeros. -/
theorem table_row (h : ScatterDims.WF (shape2 1 128) (shape1 2) (shape1 4) [0] [0] [0, 1] 0)
    (h' : ScatterDims.WF (shape2 1 128) (shape1 2) (shape1 32) [0] [0] [0, 1] 0) (x : (shape2 1 128).Idx → EReal) (hx : ∀ i, x i = 0)
    (idx idx' : IVec (shape1 2) 32) (hr : idx (ix1 0) = 0#32) (hi : idx (ix1 1) = 0#32) (hr' : idx' (ix1 0) = 0#32) (hi' : idx' (ix1 1) = 4#32)
    (u : (shape1 4).Idx → EReal) (v : (shape1 32).Idx → EReal) (j : Fin 128) :
    Host.scatter (rowDims 1 128 32 h') (fun _ b => b) (Host.scatter (rowDims 1 128 4 h) (fun _ b => b) x idx u) idx' v (ix2 0 j)
      = table (fun j => u (ix1 j)) (fun j => v (ix1 j)) j := by
  have r : (idx (ix1 0)).toInt = ((0 : Nat) : Int) := by rw [hr]; rfl
  have r' : (idx' (ix1 0)).toInt = ((0 : Nat) : Int) := by rw [hr']; rfl
  have e : (idx (ix1 1)).toInt = ((0 : Nat) : Int) := by rw [hi]; rfl
  have e' : (idx' (ix1 1)).toInt = ((4 : Nat) : Int) := by rw [hi']; rfl
  unfold table
  by_cases c : j.val < 4
  · rw [dif_pos c]
    exact (row_miss h' _ idx' v 0 4 r' e' 0 j (.inl c)).trans (row_hit h x idx u 0 0 r e 0 j ⟨j.val, c⟩ rfl (Nat.zero_add _).symm)
  · rw [dif_neg c]
    by_cases c' : j.val < 36
    · rw [dif_pos c']
      exact row_hit h' _ idx' v 0 4 r' e' 0 j ⟨j.val - 4, by omega⟩ rfl (by show j.val = 4 + (j.val - 4); omega)
    · rw [dif_neg c']
      exact (row_miss h' _ idx' v 0 4 r' e' 0 j (.inr (by omega))).trans ((row_miss h x idx u 0 0 r e 0 j (.inr (by omega))).trans (hx _))

end Cert.Out

end
-- ==== Proof.OutEven.lean ====
module

public import proofs.«01_k».proof.Defs
public import proofs.«01_k».proof.Proof.Gen.Kernel4Ideal.Value
public import proofs.«01_k».proof.Proof.Gen.Reference4Ideal.Run
public import proofs.«01_k».proof.Proof.OutEvenRef
public import proofs.«01_k».proof.Proof.OutEvenBlocks
public import proofs.«01_k».proof.Proof.OutTables
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.Out

open Cert.Kernel4Ideal Cert.Kernel4Ideal.Gen Cert.Kernel4Ideal.Value

variable (m : (ℓ : Loc nD τ sig) → Buf (Elt Ideal) ℓ)

/-- Where each window's block lies at grid point `t`. -/
theorem idx : ∀ t : Fin cfg0.N, (win0_14.index t = ![t.val, 0] ∧ win0_15.index t = ![t.val, 0] ∧ win0_16.index t = ![t.val, 0])
    ∧ (win0_0.index t = ![t.val, 0] ∧ win0_1.index t = ![t.val, 0] ∧ win0_4.index t = ![t.val, 0])
    ∧ (win0_2.index t = ![0, 0] ∧ win0_3.index t = ![0, 0] ∧ win0_11.index t = ![0, 0] ∧ win0_12.index t = ![0, 0] ∧ win0_13.index t = ![0, 0])
    ∧ (win0_5.index t = ![t.val / 8, 0, 0] ∧ win0_7.index t = ![t.val / 8, 0, 0] ∧ win0_9.index t = ![t.val / 8, 0, 0])
    ∧ (win0_6.index t = ![8, 0, 0] ∧ win0_8.index t = ![8, 0, 0] ∧ win0_10.index t = ![8, 0, 0]) :=
  (by decide +kernel : ∀ t : Fin grid0.N, _)

/-- The first mixer's weights. -/
theorem weights_first (c : Dev nD) (k : Fin 1024) (n : Fin 2048) :
    (V m c main_v2 : Vec Ideal S1024x2048 .bf16) (ix2 k n) = (m ((c : Thread nD τ).loc main_arg2) : Vec Ideal S1x3072x2048 .f32) (ix3 0 ⟨k.val, by omega⟩ n) := by
  unfold V
  after_reads_at

/-- The second mixer's weights. -/
theorem weights_second (c : Dev nD) (k : Fin 2048) (n : Fin 2048) :
    (V m c main_v3 : Vec Ideal S2048x2048 .bf16) (ix2 k n)
      = (m ((c : Thread nD τ).loc main_arg2) : Vec Ideal S1x3072x2048 .f32) (ix3 0 ⟨1024 + k.val, by omega⟩ n) := by
  unfold V
  after_reads_at

/-- The norm's weight times one plus the scale. -/
theorem scales (c : Dev nD) (i : Fin 9) (n : Fin 2048) :
    (V m c main_v10 : Vec Ideal S9x1x2048 .f32) (ix3 i 0 n)
      = Cert.Out.factor ((m ((c : Thread nD τ).loc main_arg7) : Vec Ideal S2x2048 .f32) (ix2 0 n))
          ((m ((c : Thread nD τ).loc main_arg5) : Vec Ideal S9x1x2048 .f32) (ix3 i 0 n)) := by
  unfold Cert.Out.factor
  rw [← Cert.Out.one_bits]
  unfold V
  after_reads_at

/-- The router's table of weights. -/
theorem router_table (c : Dev nD) (k : Fin 2048) (j : Fin 128) :
    (V m c main_v24 : Vec Ideal S2048x128 .bf16) (ix2 k j)
      = Cert.Out.table (fun j => (m ((c : Thread nD τ).loc main_arg8) : Vec Ideal S2x2048x4 .f32) (ix3 0 k j))
          (fun j => (m ((c : Thread nD τ).loc main_arg10) : Vec Ideal S2x2048x32 .f32) (ix3 0 k j)) j := by
  unfold V
  after_reads_at
  exact Cert.Out.table_cols _ _ _ (fun _ => Ideal.ofBits_zero_f32) _ _ rfl rfl _ _ k j

/-- The table's lower half: the table less itself. -/
theorem router_low (c : Dev nD) (k : Fin 2048) (j : Fin 128) :
    (V m c main_v27 : Vec Ideal S2048x128 .bf16) (ix2 k j)
      = (fun t : EReal => t - t) (Cert.Out.table (fun j => (m ((c : Thread nD τ).loc main_arg8) : Vec Ideal S2x2048x4 .f32) (ix3 0 k j))
          (fun j => (m ((c : Thread nD τ).loc main_arg10) : Vec Ideal S2x2048x32 .f32) (ix3 0 k j)) j) := by
  refine Eq.trans ?_ (congrArg (fun t : EReal => t - t) (router_table m c k j))
  unfold V
  after_reads_at

/-- The router's biases. -/
theorem router_bias (c : Dev nD) (j : Fin 128) :
    (V m c main_v36 : Vec Ideal S1x128 .f32) (ix2 0 j)
      = Cert.Out.table (fun j => (m ((c : Thread nD τ).loc main_arg9) : Vec Ideal S2x4 .f32) (ix2 0 j))
          (fun j => (m ((c : Thread nD τ).loc main_arg11) : Vec Ideal S2x32 .f32) (ix2 0 j)) j := by
  unfold V
  after_reads_at
  refine Cert.Out.table_row _ _ _ (fun _ => Ideal.ofBits_zero_f32) _ _ ?_ ?_ ?_ ?_ _ _ j
  · after_reads_at
  · after_reads_at
  · after_reads_at
  · after_reads_at

/-! ## The blocks a point reads -/

theorem block_first (c : Dev nD) (t : Fin cfg0.N) (r : Fin 288) (k : Fin 1024) :
    (iblk m c 0 t : Vec Ideal S288x1024 .bf16) (ix2 r k)
      = (m ((c : Thread nD τ).loc main_arg0) : Vec Ideal S18432x1024 .bf16) (ix2 (Cert.Out.blockRow t r) k) := by
  unfold Cert.Out.blockRow
  blk_point [iblk, V, idx t]

theorem block_second (c : Dev nD) (t : Fin cfg0.N) (r : Fin 288) (k : Fin 2048) :
    (iblk m c 1 t : Vec Ideal S288x2048 .bf16) (ix2 r k)
      = (m ((c : Thread nD τ).loc main_arg1) : Vec Ideal S18432x2048 .bf16) (ix2 (Cert.Out.blockRow t r) k) := by
  unfold Cert.Out.blockRow
  blk_point [iblk, V, idx t]

theorem block_tokens (c : Dev nD) (t : Fin cfg0.N) (r : Fin 288) (k : Fin 2048) :
    (iblk m c 4 t : Vec Ideal S288x2048 .f32) (ix2 r k)
      = (m ((c : Thread nD τ).loc main_arg3) : Vec Ideal S18432x2048 .f32) (ix2 (Cert.Out.blockRow t r) k) := by
  unfold Cert.Out.blockRow
  blk_point [iblk, V, idx t]

theorem block_gate (c : Dev nD) (t : Fin cfg0.N) (n : Fin 2048) :
    (iblk m c 5 t : Vec Ideal S1x1x2048 .f32) (ix3 0 0 n) = (m ((c : Thread nD τ).loc main_arg4) : Vec Ideal S9x1x2048 .f32) (ix3 ⟨t.val / 8, Cert.Out.image_lt t⟩ 0 n) := by
  blk_point [iblk, V, idx t]

theorem block_gate_context (c : Dev nD) (t : Fin cfg0.N) (n : Fin 2048) :
    (iblk m c 6 t : Vec Ideal S1x1x2048 .f32) (ix3 0 0 n) = (m ((c : Thread nD τ).loc main_arg4) : Vec Ideal S9x1x2048 .f32) (ix3 8 0 n) := by
  blk_point [iblk, V, idx t]

theorem block_shift (c : Dev nD) (t : Fin cfg0.N) (n : Fin 2048) :
    (iblk m c 9 t : Vec Ideal S1x1x2048 .f32) (ix3 0 0 n) = (m ((c : Thread nD τ).loc main_arg6) : Vec Ideal S9x1x2048 .f32) (ix3 ⟨t.val / 8, Cert.Out.image_lt t⟩ 0 n) := by
  blk_point [iblk, V, idx t]

theorem block_shift_context (c : Dev nD) (t : Fin cfg0.N) (n : Fin 2048) :
    (iblk m c 10 t : Vec Ideal S1x1x2048 .f32) (ix3 0 0 n) = (m ((c : Thread nD τ).loc main_arg6) : Vec Ideal S9x1x2048 .f32) (ix3 8 0 n) := by
  blk_point [iblk, V, idx t]

theorem block_factor (c : Dev nD) (t : Fin cfg0.N) (n : Fin 2048) :
    (iblk m c 7 t : Vec Ideal S1x1x2048 .f32) (ix3 0 0 n) = Cert.Out.factor ((m ((c : Thread nD τ).loc main_arg7) : Vec Ideal S2x2048 .f32) (ix2 0 n))
      ((m ((c : Thread nD τ).loc main_arg5) : Vec Ideal S9x1x2048 .f32) (ix3 ⟨t.val / 8, Cert.Out.image_lt t⟩ 0 n)) := by
  refine Eq.trans ?_ (scales m c ⟨t.val / 8, Cert.Out.image_lt t⟩ n)
  blk_point [iblk, idx t]

theorem block_factor_context (c : Dev nD) (t : Fin cfg0.N) (n : Fin 2048) :
    (iblk m c 8 t : Vec Ideal S1x1x2048 .f32) (ix3 0 0 n) = Cert.Out.factor ((m ((c : Thread nD τ).loc main_arg7) : Vec Ideal S2x2048 .f32) (ix2 0 n))
      ((m ((c : Thread nD τ).loc main_arg5) : Vec Ideal S9x1x2048 .f32) (ix3 8 0 n)) := by
  refine Eq.trans ?_ (scales m c 8 n)
  blk_point [iblk, idx t]

theorem block_weights_first (c : Dev nD) (t : Fin cfg0.N) (k : Fin 1024) (n : Fin 2048) :
    (iblk m c 2 t : Vec Ideal S1024x2048 .bf16) (ix2 k n)
      = (m ((c : Thread nD τ).loc main_arg2) : Vec Ideal S1x3072x2048 .f32) (ix3 0 ⟨k.val, by omega⟩ n) := by
  refine Eq.trans ?_ (weights_first m c k n)
  blk_point [iblk, idx t]

theorem block_weights_second (c : Dev nD) (t : Fin cfg0.N) (k : Fin 2048) (n : Fin 2048) :
    (iblk m c 3 t : Vec Ideal S2048x2048 .bf16) (ix2 k n)
      = (m ((c : Thread nD τ).loc main_arg2) : Vec Ideal S1x3072x2048 .f32) (ix3 0 ⟨1024 + k.val, by omega⟩ n) := by
  refine Eq.trans ?_ (weights_second m c k n)
  blk_point [iblk, idx t]

/-- A block of the router's table is the whole table. -/
theorem table_read (t : Fin cfg0.N) (A : Vec Ideal S2048x128 .bf16) (k : Fin 2048) (j : Fin 128) :
    (((cfg0.win 11).blk t).view.read (Elt Ideal) A : Vec Ideal S2048x128 .bf16) (ix2 k j) = A (ix2 k j) := by
  blk_point [idx t]

/-- So is a block of its lower half. -/
theorem low_read (t : Fin cfg0.N) (A : Vec Ideal S2048x128 .bf16) (k : Fin 2048) (j : Fin 128) :
    (((cfg0.win 12).blk t).view.read (Elt Ideal) A : Vec Ideal S2048x128 .bf16) (ix2 k j) = A (ix2 k j) := by
  blk_point [idx t]

theorem block_table (c : Dev nD) (t : Fin cfg0.N) (k : Fin 2048) (j : Fin 128) :
    (iblk m c 11 t : Vec Ideal S2048x128 .bf16) (ix2 k j)
      = Cert.Out.table (fun j => (m ((c : Thread nD τ).loc main_arg8) : Vec Ideal S2x2048x4 .f32) (ix3 0 k j))
          (fun j => (m ((c : Thread nD τ).loc main_arg10) : Vec Ideal S2x2048x32 .f32) (ix3 0 k j)) j :=
  (table_read t (V m c main_v24) k j).trans (router_table m c k j)

theorem block_low (c : Dev nD) (t : Fin cfg0.N) (k : Fin 2048) (j : Fin 128) :
    (iblk m c 12 t : Vec Ideal S2048x128 .bf16) (ix2 k j)
      = (fun t : EReal => t - t) (Cert.Out.table (fun j => (m ((c : Thread nD τ).loc main_arg8) : Vec Ideal S2x2048x4 .f32) (ix3 0 k j))
          (fun j => (m ((c : Thread nD τ).loc main_arg10) : Vec Ideal S2x2048x32 .f32) (ix3 0 k j)) j) :=
  (low_read t (V m c main_v27) k j).trans (router_low m c k j)

theorem block_bias (c : Dev nD) (t : Fin cfg0.N) (j : Fin 128) :
    (iblk m c 13 t : Vec Ideal S1x128 .f32) (ix2 0 j)
      = Cert.Out.table (fun j => (m ((c : Thread nD τ).loc main_arg9) : Vec Ideal S2x4 .f32) (ix2 0 j))
          (fun j => (m ((c : Thread nD τ).loc main_arg11) : Vec Ideal S2x32 .f32) (ix2 0 j)) j := by
  refine Eq.trans ?_ (router_bias m c j)
  blk_point [iblk, idx t]

/-! ## The results -/

/-- The tokens, of the call's arrays. -/
def TOK (c : Dev nD) : Vec Ideal S18432x2048 .f32 := fun j =>
  Cert.Out.rowTok (Cert.Out.prodEven (m ((c : Thread nD τ).loc main_arg0)) (m ((c : Thread nD τ).loc main_arg1)) (m ((c : Thread nD τ).loc main_arg2)))
    (m ((c : Thread nD τ).loc main_arg3)) (m ((c : Thread nD τ).loc main_arg4)) (j 0) (j 1)

/-- The modulated tokens, of the call's arrays. -/
def HID (c : Dev nD) : Vec Ideal S18432x2048 .f32 := fun j =>
  Cert.Out.rowHid 0 (Cert.Out.prodEven (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (j 0) (j 1)

/-- The logits, of the call's arrays. -/
def LOGITS (c : Dev nD) : Vec Ideal S18432x128 .f32 := fun j =>
  Cert.Out.rowLogit 0 (Cert.Out.prodEven (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) (j 1)

/-- Where a block's entry lies in the result. -/
theorem place_tok (t : Fin cfg0.N) (r : Fin 288) (n : Fin 2048) :
    ((View.whole main_v37_0).slice (win0_14.rect t)).emb (ix2 r n) 0 = Cert.Out.blockRow t r ∧ ((View.whole main_v37_0).slice (win0_14.rect t)).emb (ix2 r n) 1 = n := by
  unfold Cert.Out.blockRow
  constructor
  · apply Fin.ext
    blk_point [idx t]
  · apply Fin.ext
    blk_point [idx t]

/-- Where a block's entry lies in the result. -/
theorem place_hid (t : Fin cfg0.N) (r : Fin 288) (n : Fin 2048) :
    ((View.whole main_v37_1).slice (win0_15.rect t)).emb (ix2 r n) 0 = Cert.Out.blockRow t r ∧ ((View.whole main_v37_1).slice (win0_15.rect t)).emb (ix2 r n) 1 = n := by
  unfold Cert.Out.blockRow
  constructor
  · apply Fin.ext
    blk_point [idx t]
  · apply Fin.ext
    blk_point [idx t]

/-- Where a block's entry lies in the result. -/
theorem place_logits (t : Fin cfg0.N) (r : Fin 288) (n : Fin 128) :
    ((View.whole main_v37_2).slice (win0_16.rect t)).emb (ix2 r n) 0 = Cert.Out.blockRow t r ∧ ((View.whole main_v37_2).slice (win0_16.rect t)).emb (ix2 r n) 1 = n := by
  unfold Cert.Out.blockRow
  constructor
  · apply Fin.ext
    blk_point [idx t]
  · apply Fin.ext
    blk_point [idx t]

/-- The first result after the run. -/
theorem final_tok (c : Dev nD) : (dats m 0 c).arrAt 14 cfg0.N = TOK m c := by
  refine (dats m 0 c).arrAt_eq_of_covers 14 _ (by decide +kernel) fun t hf y => ?_
  blk_simp
  rw [after0_14]
  unfold_out out0_14
  frame_out
  idx_vars y
  unfold TOK
  beta_reduce
  rw [(place_tok t y0 y1).1, (place_tok t y0 y1).2]
  exact tok_point t y0 (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4))
    (block_first m c t y0) (block_second m c t y0) (block_weights_first m c t) (block_weights_second m c t)
    (block_tokens m c t y0) (block_gate m c t) (block_gate_context m c t) y1

/-- The second result after the run. -/
theorem final_hid (c : Dev nD) : (dats m 0 c).arrAt 15 cfg0.N = HID m c := by
  refine (dats m 0 c).arrAt_eq_of_covers 15 _ (by decide +kernel) fun t hf y => ?_
  blk_simp
  rw [after0_15]
  unfold_out out0_15
  frame_out
  idx_vars y
  unfold HID
  beta_reduce
  rw [(place_hid t y0 y1).1, (place_hid t y0 y1).2]
  exact hid_point t y0 (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (block_first m c t y0) (block_second m c t y0) (block_weights_first m c t) (block_weights_second m c t)
    (block_tokens m c t y0) (block_gate m c t) (block_gate_context m c t) (block_factor m c t) (block_factor_context m c t) (block_shift m c t)
    (block_shift_context m c t) y1

/-- The third result after the run. -/
theorem final_logits (c : Dev nD)
    (f5 : ∀ i, Cert.Out.IsReal ((m ((c : Thread nD τ).loc main_arg5) : Vec Ideal S9x1x2048 .f32) i))
    (f6 : ∀ i, Cert.Out.IsReal ((m ((c : Thread nD τ).loc main_arg6) : Vec Ideal S9x1x2048 .f32) i))
    (f7 : ∀ i, Cert.Out.IsReal ((m ((c : Thread nD τ).loc main_arg7) : Vec Ideal S2x2048 .f32) i))
    (f8 : ∀ i, Cert.Out.IsReal ((m ((c : Thread nD τ).loc main_arg8) : Vec Ideal S2x2048x4 .f32) i))
    (f10 : ∀ i, Cert.Out.IsReal ((m ((c : Thread nD τ).loc main_arg10) : Vec Ideal S2x2048x32 .f32) i)) : (dats m 0 c).arrAt 16 cfg0.N = LOGITS m c := by
  refine (dats m 0 c).arrAt_eq_of_covers 16 _ (by decide +kernel) fun t hf y => ?_
  blk_simp
  rw [after0_16]
  unfold_out out0_16
  frame_out
  idx_vars y
  unfold LOGITS
  beta_reduce
  rw [(place_logits t y0 y1).1, (place_logits t y0 y1).2]
  exact logit_point t y0 (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (block_first m c t y0) (block_second m c t y0) (block_weights_first m c t) (block_weights_second m c t)
    (block_tokens m c t y0) (block_gate m c t) (block_gate_context m c t) (block_factor m c t) (block_factor_context m c t) (block_shift m c t)
    (block_shift_context m c t)
    (iblk m c 11 t) (iblk m c 12 t) (iblk m c 13 t) (m ((c : Thread nD τ).loc main_arg8)) (m ((c : Thread nD τ).loc main_arg9)) (m ((c : Thread nD τ).loc main_arg10)) (m ((c : Thread nD τ).loc main_arg11))
    (block_table m c t) (block_low m c t) (block_bias m c t) f5 f6 f7 f8 f10 y1

end Cert.Kernel4Ideal.Out

end
-- ==== Proof.OutEvenFinal.lean ====
module

public import proofs.«01_k».proof.Defs
public import proofs.«01_k».proof.Proof.Gen.Kernel4Ideal.Value
public import proofs.«01_k».proof.Proof.Gen.Reference4Ideal.Run
public import proofs.«01_k».proof.Proof.OutEvenRef
public import proofs.«01_k».proof.Proof.OutEven
public import proofs.«01_k».proof.Proof.Gen.Pre_out_even_finite
public import Idealize.ShloMosaic.Lib.Claim

@[expose] public section

set_option maxRecDepth 16384

noncomputable section

open Idealize.ShloMosaic Idealize.ShloMosaic.TcCoe Idealize.SL.Sem

namespace Cert.Reference4Ideal.Out

open Cert.Reference4Ideal Cert.Reference4Ideal.Gen Cert.Reference4Ideal.Read

/-- The first result, of arrays equal to the arguments. -/
theorem tok_eq {x0 a0 : Vec Ideal S18432x1024 .bf16} {x1 a1 : Vec Ideal S18432x2048 .bf16} {x2 a2 : Vec Ideal S1x3072x2048 .f32} {x3 a3 : Vec Ideal S18432x2048 .f32} {x4 a4 : Vec Ideal S9x1x2048 .f32}
    (h0 : x0 = a0) (h1 : x1 = a1) (h2 : x2 = a2) (h3 : x3 = a3) (h4 : x4 = a4) :
    val_main_v85 (F := Ideal) x0 x1 x2 x3 x4 = (fun j => Cert.Out.rowTok (Cert.Out.prodEven a0 a1 a2) a3 a4 (j 0) (j 1) : Vec Ideal S18432x2048 .f32) := by
  subst h0 h1 h2 h3 h4
  funext j
  idx_vars j
  exact tok_apply x0 x1 x2 x3 x4 j0 j1

/-- The second result, of arrays equal to the arguments. -/
theorem hid_eq {x0 a0 : Vec Ideal S18432x1024 .bf16} {x1 a1 : Vec Ideal S18432x2048 .bf16} {x2 a2 : Vec Ideal S1x3072x2048 .f32} {x3 a3 : Vec Ideal S18432x2048 .f32} {x4 a4 : Vec Ideal S9x1x2048 .f32} {x5 a5 : Vec Ideal S9x1x2048 .f32} {x6 a6 : Vec Ideal S9x1x2048 .f32} {x7 a7 : Vec Ideal S2x2048 .f32}
    (h0 : x0 = a0) (h1 : x1 = a1) (h2 : x2 = a2) (h3 : x3 = a3) (h4 : x4 = a4) (h5 : x5 = a5) (h6 : x6 = a6) (h7 : x7 = a7) :
    val_main_v65 (F := Ideal) x0 x1 x2 x3 x4 x5 x6 x7 = (fun j => Cert.Out.rowHid 0 (Cert.Out.prodEven a0 a1 a2) a3 a4 a5 a6 a7 (j 0) (j 1) : Vec Ideal S18432x2048 .f32) := by
  subst h0 h1 h2 h3 h4 h5 h6 h7
  funext j
  idx_vars j
  exact hid_apply x0 x1 x2 x3 x4 x5 x6 x7 j0 j1

/-- The third result, of arrays equal to the arguments. -/
theorem logits_eq {x0 a0 : Vec Ideal S18432x1024 .bf16} {x1 a1 : Vec Ideal S18432x2048 .bf16} {x2 a2 : Vec Ideal S1x3072x2048 .f32} {x3 a3 : Vec Ideal S18432x2048 .f32} {x4 a4 : Vec Ideal S9x1x2048 .f32} {x5 a5 : Vec Ideal S9x1x2048 .f32} {x6 a6 : Vec Ideal S9x1x2048 .f32} {x7 a7 : Vec Ideal S2x2048 .f32} {x8 a8 : Vec Ideal S2x2048x4 .f32} {x9 a9 : Vec Ideal S2x4 .f32} {x10 a10 : Vec Ideal S2x2048x32 .f32} {x11 a11 : Vec Ideal S2x32 .f32}
    (h0 : x0 = a0) (h1 : x1 = a1) (h2 : x2 = a2) (h3 : x3 = a3) (h4 : x4 = a4) (h5 : x5 = a5) (h6 : x6 = a6) (h7 : x7 = a7) (h8 : x8 = a8) (h9 : x9 = a9) (h10 : x10 = a10) (h11 : x11 = a11) :
    val_main_v83 (F := Ideal) x0 x1 x2 x3 x4 x5 x6 x7 x8 x9 x10 x11 = (fun j => Cert.Out.rowLogit 0 (Cert.Out.prodEven a0 a1 a2) a3 a4 a5 a6 a7 a8 a9 a10 a11 (j 0) (j 1) : Vec Ideal S18432x128 .f32) := by
  subst h0 h1 h2 h3 h4 h5 h6 h7 h8 h9 h10 h11
  funext j
  idx_vars j
  exact logits_apply x0 x1 x2 x3 x4 x5 x6 x7 x8 x9 x10 x11 j0 j1

end Cert.Reference4Ideal.Out

namespace Cert.Proof.OutEven

/-- With exact arithmetic and finite weights the even layer's output kernel leaves what the plain computation leaves. -/
theorem algebraic : Cert.algebraic_Kernel4Ideal_Reference4Ideal_pre_out_even_finite := by
  pair_intro
  · run_from Cert.Kernel4Ideal.Value.run_blocks m g
  · run_from Cert.Reference4Ideal.Value.run m' g'
    · refine Eq.trans ?_ (Cert.Kernel4Ideal.Out.final_tok m c).symm
      exact Cert.Reference4Ideal.Out.tok_eq
        (Eq.refl (m ((c.tc : Thread Cert.Kernel4Ideal.nD Cert.Kernel4Ideal.τ).loc Cert.Kernel4Ideal.main_arg0))) (Eq.refl (m ((c.tc : Thread Cert.Kernel4Ideal.nD Cert.Kernel4Ideal.τ).loc Cert.Kernel4Ideal.main_arg1))) (Eq.refl (m ((c.tc : Thread Cert.Kernel4Ideal.nD Cert.Kernel4Ideal.τ).loc Cert.Kernel4Ideal.main_arg2))) (Eq.refl (m ((c.tc : Thread Cert.Kernel4Ideal.nD Cert.Kernel4Ideal.τ).loc Cert.Kernel4Ideal.main_arg3))) (hagree c).2.2.2.2.1
    · refine Eq.trans ?_ (Cert.Kernel4Ideal.Out.final_hid m c).symm
      refine (Cert.Reference4Ideal.Read.val_main_v65_eq m' c).trans ?_
      exact Cert.Reference4Ideal.Out.hid_eq
        (hagree c).1 (hagree c).2.1 (hagree c).2.2.1 (hagree c).2.2.2.1 (hagree c).2.2.2.2.1 (hagree c).2.2.2.2.2.1 (hagree c).2.2.2.2.2.2.1 (hagree c).2.2.2.2.2.2.2.1
    · refine Eq.trans ?_ (Cert.Kernel4Ideal.Out.final_logits m c
        (Cert.Out.real_of_test (m ((c.tc : Thread Cert.Kernel4Ideal.nD Cert.Kernel4Ideal.τ).loc Cert.Kernel4Ideal.main_arg5)) _ (fun _ => rfl) (hpre c).1)
        (Cert.Out.real_of_test (m ((c.tc : Thread Cert.Kernel4Ideal.nD Cert.Kernel4Ideal.τ).loc Cert.Kernel4Ideal.main_arg6)) _ (fun _ => rfl) (hpre c).2.1)
        (Cert.Out.real_of_test (m ((c.tc : Thread Cert.Kernel4Ideal.nD Cert.Kernel4Ideal.τ).loc Cert.Kernel4Ideal.main_arg7)) _ (fun _ => rfl) (hpre c).2.2.1)
        (Cert.Out.real_of_test (m ((c.tc : Thread Cert.Kernel4Ideal.nD Cert.Kernel4Ideal.τ).loc Cert.Kernel4Ideal.main_arg8)) _ (fun _ => rfl) (hpre c).2.2.2.1)
        (Cert.Out.real_of_test (m ((c.tc : Thread Cert.Kernel4Ideal.nD Cert.Kernel4Ideal.τ).loc Cert.Kernel4Ideal.main_arg10)) _ (fun _ => rfl) (hpre c).2.2.2.2)).symm
      refine (Cert.Reference4Ideal.Read.val_main_v83_eq m' c).trans ?_
      exact Cert.Reference4Ideal.Out.logits_eq
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2

end Cert.Proof.OutEven

end
-- ==== Proof.OutOddRef.lean ====
module

public import proofs.«01_k».proof.Proof.Gen.Reference5Ideal.Read
public import proofs.«01_k».proof.Proof.OutSpec
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Reference5Ideal.Out

open Cert.Reference5Ideal Cert.Reference5Ideal.Gen Cert.Reference5Ideal.Read

variable (x0 : Vec Ideal S18432x1024 .bf16) (x1 : Vec Ideal S18432x1024 .bf16) (x2 : Vec Ideal S1x2048x2048 .f32)
  (x3 : Vec Ideal S18432x2048 .f32) (x4 x5 x6 : Vec Ideal S9x1x2048 .f32) (x7 : Vec Ideal S2x2048 .f32)
  (x8 : Vec Ideal S2x2048x4 .f32) (x9 : Vec Ideal S2x4 .f32) (x10 : Vec Ideal S2x2048x32 .f32) (x11 : Vec Ideal S2x32 .f32)

/-- The projection at an entry: the two mixers' parts of the sum. -/
theorem prod_apply (r : Fin 18432) (n : Fin 2048) : val_main_v3 (F := Ideal) x0 x1 x2 (ix2 r n) = Cert.Out.prodOdd x0 x1 x2 r n := by
  unfold Cert.Out.prodOdd
  pointwise [val_main_v3, val_main_v2, val_main_v1, val_main_v0]

/-- A latent token's new value. -/
theorem latent_tok (b : Fin 8) (p : Fin 2048) (n : Fin 2048) :
    val_main_v17 (F := Ideal) x0 x1 x2 x3 x4 (ix3 b p n)
      = x3 (ix2 (Cert.Out.latentRow b p) n) + x4 (ix3 ⟨b.val, by omega⟩ 0 n) * val_main_v3 (F := Ideal) x0 x1 x2 (ix2 (Cert.Out.latentRow b p) n) := by
  unfold val_main_v17 val_main_v16 val_main_v15 val_main_v14 val_main_v4
  generalize val_main_v3 (F := Ideal) x0 x1 x2 = y
  unfold Cert.Out.latentRow
  pointwise [val_main_v7, val_main_v5, val_main_v8]

/-- A context token's new value. -/
theorem context_tok (b : Fin 8) (p : Fin 256) (n : Fin 2048) :
    val_main_v42 (F := Ideal) x0 x1 x2 x3 x4 (ix3 b p n)
      = x3 (ix2 (Cert.Out.contextRow b p) n) + x4 (ix3 8 0 n) * val_main_v3 (F := Ideal) x0 x1 x2 (ix2 (Cert.Out.contextRow b p) n) := by
  unfold val_main_v42 val_main_v41 val_main_v40 val_main_v39 val_main_v4
  generalize val_main_v3 (F := Ideal) x0 x1 x2 = y
  unfold Cert.Out.contextRow
  pointwise [val_main_v6, val_main_v5, val_main_v11]

/-- A latent token's normalised and modulated value. -/
theorem latent_hid (b : Fin 8) (p : Fin 2048) (n : Fin 2048) :
    val_main_v38 (F := Ideal) x0 x1 x2 x3 x4 x5 x6 x7 (ix3 b p n)
      = Cert.Out.hid (fun k => val_main_v17 (F := Ideal) x0 x1 x2 x3 x4 (ix3 b p k)) (fun k => x7 (ix2 1 k)) (fun k => x5 (ix3 ⟨b.val, by omega⟩ 0 k))
          (fun k => x6 (ix3 ⟨b.val, by omega⟩ 0 k)) n := by
  unfold val_main_v38 val_main_v36 val_main_v32 val_main_v29 val_main_v28 val_main_v27 val_main_v26 val_main_v24 val_main_v22 val_main_v21 val_main_v20
  generalize val_main_v17 (F := Ideal) x0 x1 x2 x3 x4 = t
  unfold Cert.Out.hid Cert.Out.inv
  rw [← Cert.Out.one_bits]
  pointwise [val_main_v37, val_main_v35, val_main_v34, val_main_v33, val_main_cst_2, val_main_v31, val_main_v30, val_main_v19, val_main_v18, val_main_v25,
    val_main_cst_1, val_main_v23, val_main_cst_0, val_main_cst, val_main_v10, val_main_v9]

/-- A context token's normalised and modulated value. -/
theorem context_hid (b : Fin 8) (p : Fin 256) (n : Fin 2048) :
    val_main_v63 (F := Ideal) x0 x1 x2 x3 x4 x5 x6 x7 (ix3 b p n)
      = Cert.Out.hid (fun k => val_main_v42 (F := Ideal) x0 x1 x2 x3 x4 (ix3 b p k)) (fun k => x7 (ix2 1 k)) (fun k => x5 (ix3 8 0 k))
          (fun k => x6 (ix3 8 0 k)) n := by
  unfold val_main_v63 val_main_v61 val_main_v57 val_main_v54 val_main_v53 val_main_v52 val_main_v51 val_main_v49 val_main_v47 val_main_v46 val_main_v45
  generalize val_main_v42 (F := Ideal) x0 x1 x2 x3 x4 = t
  unfold Cert.Out.hid Cert.Out.inv
  rw [← Cert.Out.one_bits]
  pointwise [val_main_v62, val_main_v60, val_main_v59, val_main_v58, val_main_cst_6, val_main_v56, val_main_v55, val_main_v44, val_main_v43, val_main_v50,
    val_main_cst_5, val_main_v48, val_main_cst_4, val_main_cst_3, val_main_v13, val_main_v12]

/-- The joined array at a context row. -/
theorem join_context (u : Vec Ideal S8x256x2048 .f32) (v : Vec Ideal S8x2048x2048 .f32) (b : Fin 8) (p : Fin 256) (n : Fin 2048) :
    shapeCast S18432x2048 (concatenate S8x2304x2048 1 [⟨S8x256x2048, u⟩, ⟨S8x2048x2048, v⟩] concatenates_S8x256x2048_S8x2048x2048_S8x2304x2048_d1)
      shapeCasts_S8x2304x2048_S18432x2048 (ix2 (Cert.Out.contextRow b p) n) = u (ix3 b p n) := by
  have e : (b.val * 2304 + p.val) % 2304 = p.val := by omega
  unfold Cert.Out.contextRow
  pointwise []
  rw [dif_pos (by omega)]
  exact congrArg (fun q => u (ix3 b q n)) (Fin.ext e)

/-- The joined array at a latent row. -/
theorem join_latent (u : Vec Ideal S8x256x2048 .f32) (v : Vec Ideal S8x2048x2048 .f32) (b : Fin 8) (p : Fin 2048) (n : Fin 2048) :
    shapeCast S18432x2048 (concatenate S8x2304x2048 1 [⟨S8x256x2048, u⟩, ⟨S8x2048x2048, v⟩] concatenates_S8x256x2048_S8x2048x2048_S8x2304x2048_d1)
      shapeCasts_S8x2304x2048_S18432x2048 (ix2 (Cert.Out.latentRow b p) n) = v (ix3 b p n) := by
  have e : (b.val * 2304 + (256 + p.val)) % 2304 - 256 = p.val := by omega
  unfold Cert.Out.latentRow
  pointwise []
  rw [dif_neg (by omega)]
  exact congrArg (fun q => v (ix3 b q n)) (Fin.ext e)

/-- The tokens' rows, as a function of the arguments. -/
def T : Fin 18432 → Fin 2048 → EReal :=
  Cert.Out.rowTok (Cert.Out.prodOdd x0 x1 x2) x3 x4

/-- The modulated rows, as a function of the arguments. -/
def H (r : Fin 18432) : Fin 2048 → EReal :=
  Cert.Out.rowHid 1 (Cert.Out.prodOdd x0 x1 x2) x3 x4 x5 x6 x7 r

theorem latent_T (b : Fin 8) (p : Fin 2048) (n : Fin 2048) :
    val_main_v17 (F := Ideal) x0 x1 x2 x3 x4 (ix3 b p n) = T x0 x1 x2 x3 x4 (Cert.Out.latentRow b p) n := by
  rw [latent_tok, prod_apply]
  unfold T Cert.Out.rowTok Cert.Out.tok
  rw [Cert.Out.sel_latent]

theorem context_T (b : Fin 8) (p : Fin 256) (n : Fin 2048) :
    val_main_v42 (F := Ideal) x0 x1 x2 x3 x4 (ix3 b p n) = T x0 x1 x2 x3 x4 (Cert.Out.contextRow b p) n := by
  rw [context_tok, prod_apply]
  unfold T Cert.Out.rowTok Cert.Out.tok
  rw [Cert.Out.sel_context]

/-- The reference's first result. -/
theorem tok_apply (r : Fin 18432) (n : Fin 2048) : val_main_v85 (F := Ideal) x0 x1 x2 x3 x4 (ix2 r n) = T x0 x1 x2 x3 x4 r n := by
  unfold val_main_v85 val_main_v84
  rcases Cert.Out.row_cases r with ⟨b, p, rfl⟩ | ⟨b, p, rfl⟩
  · exact (join_context _ _ b p n).trans (context_T x0 x1 x2 x3 x4 b p n)
  · exact (join_latent _ _ b p n).trans (latent_T x0 x1 x2 x3 x4 b p n)

/-- The reference's second result. -/
theorem hid_apply (r : Fin 18432) (n : Fin 2048) :
    val_main_v65 (F := Ideal) x0 x1 x2 x3 x4 x5 x6 x7 (ix2 r n) = H x0 x1 x2 x3 x4 x5 x6 x7 r n := by
  unfold val_main_v65 val_main_v64 H Cert.Out.rowHid
  rcases Cert.Out.row_cases r with ⟨b, p, rfl⟩ | ⟨b, p, rfl⟩
  · refine (join_context _ _ b p n).trans ((context_hid x0 x1 x2 x3 x4 x5 x6 x7 b p n).trans ?_)
    rw [Cert.Out.sel_context, funext fun k => context_T x0 x1 x2 x3 x4 b p k]
    rfl
  · refine (join_latent _ _ b p n).trans ((latent_hid x0 x1 x2 x3 x4 x5 x6 x7 b p n).trans ?_)
    rw [Cert.Out.sel_latent, funext fun k => latent_T x0 x1 x2 x3 x4 b p k]
    rfl

/-- The three pieces of the logits at an entry. -/
theorem join_logits (u : Vec Ideal S18432x4 .f32) (v : Vec Ideal S18432x32 .f32) (z : Vec Ideal S18432x92 .f32) (r : Fin 18432) (j : Fin 128)
    (hz : ∀ i, z i = 0) :
    concatenate S18432x128 1 [⟨S18432x4, u⟩, ⟨S18432x32, v⟩, ⟨S18432x92, z⟩] concatenates_S18432x4_S18432x32_S18432x92_S18432x128_d1 (ix2 r j)
      = Cert.Out.table (fun j => u (ix2 r j)) (fun j => v (ix2 r j)) j := by
  unfold Cert.Out.table
  pointwise []
  exact dite_congr rfl (fun _ => rfl) fun _ => dite_congr (propext (by omega)) (fun _ => rfl) fun _ => hz _

/-- A group's logit. -/
theorem group_apply (r : Fin 18432) (j : Fin 4) : val_main_v73 (F := Ideal) x0 x1 x2 x3 x4 x5 x6 x7 x8 x9 (ix2 r j)
    = (∑ k : Fin 2048, H x0 x1 x2 x3 x4 x5 x6 x7 r k * x8 (ix3 1 k j)) + x9 (ix2 1 j) := by
  rw [← funext fun k => hid_apply x0 x1 x2 x3 x4 x5 x6 x7 r k]
  unfold val_main_v73 val_main_v68
  generalize val_main_v65 (F := Ideal) x0 x1 x2 x3 x4 x5 x6 x7 = h
  pointwise [val_main_v67, val_main_v66, val_main_v72, val_main_v71, val_main_v70, val_main_v69]

/-- An expert's logit. -/
theorem expert_apply (r : Fin 18432) (j : Fin 32) : val_main_v81 (F := Ideal) x0 x1 x2 x3 x4 x5 x6 x7 x10 x11 (ix2 r j)
    = (∑ k : Fin 2048, H x0 x1 x2 x3 x4 x5 x6 x7 r k * x10 (ix3 1 k j)) + x11 (ix2 1 j) := by
  rw [← funext fun k => hid_apply x0 x1 x2 x3 x4 x5 x6 x7 r k]
  unfold val_main_v81 val_main_v76
  generalize val_main_v65 (F := Ideal) x0 x1 x2 x3 x4 x5 x6 x7 = h
  pointwise [val_main_v75, val_main_v74, val_main_v80, val_main_v79, val_main_v78, val_main_v77]

/-- The reference's third result. -/
theorem logits_apply (r : Fin 18432) (j : Fin 128) : val_main_v83 (F := Ideal) x0 x1 x2 x3 x4 x5 x6 x7 x8 x9 x10 x11 (ix2 r j)
    = Cert.Out.rowLogit 1 (Cert.Out.prodOdd x0 x1 x2) x3 x4 x5 x6 x7 x8 x9 x10 x11 r j := by
  unfold val_main_v83
  refine (join_logits _ _ _ r j fun i => ?_).trans ?_
  · exact Ideal.ofBits_zero_f32
  · unfold Cert.Out.rowLogit Cert.Out.logit
    rw [funext fun j => group_apply x0 x1 x2 x3 x4 x5 x6 x7 x8 x9 r j, funext fun j => expert_apply x0 x1 x2 x3 x4 x5 x6 x7 x10 x11 r j]
    rfl

end Cert.Reference5Ideal.Out

end
-- ==== Proof.OutOddMask.lean ====
module

public import proofs.«01_k».proof.Proof.Gen.Kernel5Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Out

open Cert.Kernel5Ideal Cert.Kernel5Ideal.Gen

/-- The context rows of a block: row `r` of block `t` is row `288 t + r` of the array. -/
theorem mask_apply : ∀ (t : Fin cfg0.N) (r : Fin 288),
    k0_pay4 (grid0.coords t) (ix2 r 0) = if (t.val * 288 + r.val) % 2304 < 256 then 1#1 else 0#1 :=
  (by decide +kernel : ∀ (t : Fin grid0.N) (r : Fin 288), _)

end Cert.Kernel5Ideal.Out

end
-- ==== Proof.OutOddBlocks.lean ====
module

public import proofs.«01_k».proof.Proof.Gen.Kernel5Ideal.Value
public import proofs.«01_k».proof.Proof.OutSpec
public import proofs.«01_k».proof.Proof.OutOddMask
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Out

open Cert.Kernel5Ideal Cert.Kernel5Ideal.Gen Cert.Kernel5Ideal.Value

/-- One block's new tokens. -/
theorem tok_block (x0 : Vec Ideal S288x1024 .bf16) (x1 : Vec Ideal S288x1024 .bf16) (x2 : Vec Ideal S1024x2048 .bf16) (x3 : Vec Ideal S1024x2048 .bf16)
    (x4 : Vec Ideal S288x2048 .f32) (x5 x6 : Vec Ideal S1x1x2048 .f32) (b : IVec S288x1 1) (r : Fin 288) (n : Fin 2048) :
    k0_pay6 (F := Ideal) (k0_pay3 x0 x2 x1 x3) b x4 (k0_pay5 x6) x5 (ix2 r n)
      = x4 (ix2 r n) + Scalar.select (b (ix2 r 0)) (x6 (ix3 0 0 n)) (x5 (ix3 0 0 n))
          * ((∑ k : Fin 1024, x0 (ix2 r k) * x2 (ix2 k n)) + ∑ k : Fin 1024, x1 (ix2 r k) * x3 (ix2 k n)) := by
  pointwise [k0_pay6, k0_pay3, k0_pay5]

/-- One block's normalised and modulated rows. -/
theorem hid_block (v8 x4 : Vec Ideal S288x2048 .f32) (v33 : Vec Ideal S1x2048 .f32) (x5 x7 x8 x9 x10 : Vec Ideal S1x1x2048 .f32) (b : IVec S288x1 1)
    (r : Fin 288) (n : Fin 2048) :
    k0_pay1 (F := Ideal) (k0_pay7 v8 b x4 v33 x5 x8 x7) (k0_pay8 x9) (k0_pay9 b) (k0_pay10 x10) (ix2 r n)
      = k0_pay6 (F := Ideal) v8 b x4 v33 x5 (ix2 r n) * Cert.Out.inv (fun k => k0_pay6 (F := Ideal) v8 b x4 v33 x5 (ix2 r k))
          * Scalar.select (b (ix2 r 0)) (x8 (ix3 0 0 n)) (x7 (ix3 0 0 n))
        + Scalar.select (b (ix2 r 0)) (x10 (ix3 0 0 n)) (x9 (ix3 0 0 n)) := by
  unfold k0_pay7 Cert.Out.inv
  generalize k0_pay6 (F := Ideal) v8 b x4 v33 x5 = t
  pointwise [k0_pay1, k0_pay8, k0_pay9, k0_pay10]

/-- One block's logits. -/
theorem logit_block (v67 : FVec Ideal S288x2048 .f32) (v71 : FVec Ideal S1x2048 .f32) (v73 : IVec S288x2048 1) (v74 : FVec Ideal S1x2048 .f32)
    (x11 x12 x11' : Vec Ideal S2048x128 .bf16) (x13 : Vec Ideal S1x128 .f32) (r : Fin 288) (j : Fin 128) :
    k0_pay2 (F := Ideal) v67 v71 v73 v74 x11 x12 x11' x13 (ix2 r j)
      = (∑ k : Fin 2048, k0_pay1 (F := Ideal) v67 v71 v73 v74 (ix2 r k) * x11 (ix2 k j))
          + (∑ k : Fin 2048, k0_pay1 (F := Ideal) v67 v71 v73 v74 (ix2 r k) * x12 (ix2 k j))
          + (∑ k : Fin 2048, (k0_pay1 (F := Ideal) v67 v71 v73 v74 (ix2 r k) - k0_pay1 (F := Ideal) v67 v71 v73 v74 (ix2 r k)) * x11' (ix2 k j))
          + x13 (ix2 0 j) := by
  unfold k0_pay2
  generalize k0_pay1 (F := Ideal) v67 v71 v73 v74 = h
  pointwise []

/-! ## A point's blocks as blocks of the whole arrays -/

section Point

variable (t : Fin cfg0.N) (r : Fin 288) (x0 : Vec Ideal S288x1024 .bf16) (x1 : Vec Ideal S288x1024 .bf16) (x2 : Vec Ideal S1024x2048 .bf16)
  (x3 : Vec Ideal S1024x2048 .bf16) (x4 : Vec Ideal S288x2048 .f32) (x5 x6 x7 x8 x9 x10 : Vec Ideal S1x1x2048 .f32)
  (a0 : Vec Ideal S18432x1024 .bf16) (a1 : Vec Ideal S18432x1024 .bf16) (a2 : Vec Ideal S1x2048x2048 .f32) (a3 : Vec Ideal S18432x2048 .f32)
  (a4 a5 a6 : Vec Ideal S9x1x2048 .f32) (a7 : Vec Ideal S2x2048 .f32)
  (h0 : ∀ k, x0 (ix2 r k) = a0 (ix2 (Cert.Out.blockRow t r) k)) (h1 : ∀ k, x1 (ix2 r k) = a1 (ix2 (Cert.Out.blockRow t r) k))
  (h2 : ∀ (k : Fin 1024) n, x2 (ix2 k n) = a2 (ix3 0 ⟨k.val, Nat.lt_of_lt_of_le k.isLt (Nat.le_of_ble_eq_true rfl)⟩ n))
  (h3 : ∀ (k : Fin 1024) n, x3 (ix2 k n) = a2 (ix3 0 ⟨1024 + k.val, Nat.add_lt_add_left k.isLt 1024⟩ n))
  (h4 : ∀ n, x4 (ix2 r n) = a3 (ix2 (Cert.Out.blockRow t r) n))
  (h5 : ∀ n, x5 (ix3 0 0 n) = a4 (ix3 ⟨t.val / 8, Cert.Out.image_lt t⟩ 0 n)) (h6 : ∀ n, x6 (ix3 0 0 n) = a4 (ix3 8 0 n))
  (h7 : ∀ n, x7 (ix3 0 0 n) = Cert.Out.factor (a7 (ix2 1 n)) (a5 (ix3 ⟨t.val / 8, Cert.Out.image_lt t⟩ 0 n)))
  (h8 : ∀ n, x8 (ix3 0 0 n) = Cert.Out.factor (a7 (ix2 1 n)) (a5 (ix3 8 0 n)))
  (h9 : ∀ n, x9 (ix3 0 0 n) = a6 (ix3 ⟨t.val / 8, Cert.Out.image_lt t⟩ 0 n)) (h10 : ∀ n, x10 (ix3 0 0 n) = a6 (ix3 8 0 n))

include h0 h1 h2 h3 h4 h5 h6

/-- A block's new tokens are the specified rows. -/
theorem tok_point (n : Fin 2048) :
    k0_pay6 (F := Ideal) (k0_pay3 x0 x2 x1 x3) (k0_pay4 (grid0.coords t)) x4 (k0_pay5 x6) x5 (ix2 r n)
      = Cert.Out.rowTok (Cert.Out.prodOdd a0 a1 a2) a3 a4 (Cert.Out.blockRow t r) n := by
  refine (tok_block x0 x1 x2 x3 x4 x5 x6 _ r n).trans (Cert.Out.tok_of_block (Cert.Out.blockRow t r) n _ _ _ _ (h4 n) ?_ ?_)
  · exact Cert.Out.select_image t r _ (mask_apply t r) (fun i => a4 (ix3 i 0 n)) _ _ (h6 n) (h5 n)
  · exact congrArg₂ (fun a b : EReal => a + b)
      (Finset.sum_congr rfl fun k _ => congrArg₂ (fun a b : EReal => a * b) (h0 k) (h2 k n))
      (Finset.sum_congr rfl fun k _ => congrArg₂ (fun a b : EReal => a * b) (h1 k) (h3 k n))

include h7 h8 h9 h10

/-- A block's modulated tokens are the specified rows. -/
theorem hid_point (n : Fin 2048) :
    k0_pay1 (F := Ideal) (k0_pay7 (k0_pay3 x0 x2 x1 x3) (k0_pay4 (grid0.coords t)) x4 (k0_pay5 x6) x5 x8 x7) (k0_pay8 x9)
        (k0_pay9 (k0_pay4 (grid0.coords t))) (k0_pay10 x10) (ix2 r n)
      = Cert.Out.rowHid 1 (Cert.Out.prodOdd a0 a1 a2) a3 a4 a5 a6 a7 (Cert.Out.blockRow t r) n := by
  refine (hid_block _ x4 _ x5 x7 x8 x9 x10 _ r n).trans (Cert.Out.hid_of_block (Cert.Out.blockRow t r) n _ _ _
    (tok_point t r x0 x1 x2 x3 x4 x5 x6 a0 a1 a2 a3 a4 h0 h1 h2 h3 h4 h5 h6) ?_ ?_)
  · exact Cert.Out.select_image t r _ (mask_apply t r) (fun i => Cert.Out.factor (a7 (ix2 1 n)) (a5 (ix3 i 0 n))) _ _ (h8 n) (h7 n)
  · exact Cert.Out.select_image t r _ (mask_apply t r) (fun i => a6 (ix3 i 0 n)) _ _ (h10 n) (h9 n)

variable (x11 x12 : Vec Ideal S2048x128 .bf16) (x13 : Vec Ideal S1x128 .f32)
  (a8 : Vec Ideal S2x2048x4 .f32) (a9 : Vec Ideal S2x4 .f32) (a10 : Vec Ideal S2x2048x32 .f32) (a11 : Vec Ideal S2x32 .f32)
  (h11 : ∀ k j, x11 (ix2 k j) = Cert.Out.table (fun j => a8 (ix3 1 k j)) (fun j => a10 (ix3 1 k j)) j)
  (h12 : ∀ k j, x12 (ix2 k j) = (fun t : EReal => t - t) (Cert.Out.table (fun j => a8 (ix3 1 k j)) (fun j => a10 (ix3 1 k j)) j))
  (h13 : ∀ j, x13 (ix2 0 j) = Cert.Out.table (fun j => a9 (ix2 1 j)) (fun j => a11 (ix2 1 j)) j)
  (f5 : ∀ i, Cert.Out.IsReal (a5 i)) (f6 : ∀ i, Cert.Out.IsReal (a6 i)) (f7 : ∀ i, Cert.Out.IsReal (a7 i))
  (f8 : ∀ i, Cert.Out.IsReal (a8 i)) (f10 : ∀ i, Cert.Out.IsReal (a10 i))

include h11 h12 h13 f5 f6 f7 f8 f10

/-- A block's logits are the specified rows, where the arrays are finite. -/
theorem logit_point (j : Fin 128) :
    k0_pay2 (F := Ideal) (k0_pay7 (k0_pay3 x0 x2 x1 x3) (k0_pay4 (grid0.coords t)) x4 (k0_pay5 x6) x5 x8 x7) (k0_pay8 x9)
        (k0_pay9 (k0_pay4 (grid0.coords t))) (k0_pay10 x10) x11 x12 x11 x13 (ix2 r j)
      = Cert.Out.rowLogit 1 (Cert.Out.prodOdd a0 a1 a2) a3 a4 a5 a6 a7 a8 a9 a10 a11 (Cert.Out.blockRow t r) j :=
  (logit_block _ _ _ _ x11 x12 x11 x13 r j).trans
    (Cert.Out.rowLogit_halves a9 a11 f5 f6 f7 f8 f10 (Cert.Out.blockRow t r) j _ _ _ _
      (hid_point t r x0 x1 x2 x3 x4 x5 x6 x7 x8 x9 x10 a0 a1 a2 a3 a4 a5 a6 a7 h0 h1 h2 h3 h4 h5 h6 h7 h8 h9 h10) (fun k => h11 k j)
      (fun k => (h12 k j).trans (congrArg (fun t : EReal => t - t) (h11 k j).symm)) (h13 j))

end Point

end Cert.Kernel5Ideal.Out

end
-- ==== Proof.OutOdd.lean ====
module

public import proofs.«01_k».proof.Defs
public import proofs.«01_k».proof.Proof.Gen.Kernel5Ideal.Value
public import proofs.«01_k».proof.Proof.Gen.Reference5Ideal.Run
public import proofs.«01_k».proof.Proof.OutOddRef
public import proofs.«01_k».proof.Proof.OutOddBlocks
public import proofs.«01_k».proof.Proof.OutTables
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.Out

open Cert.Kernel5Ideal Cert.Kernel5Ideal.Gen Cert.Kernel5Ideal.Value

variable (m : (ℓ : Loc nD τ sig) → Buf (Elt Ideal) ℓ)

/-- Where each window's block lies at grid point `t`. -/
theorem idx : ∀ t : Fin cfg0.N, (win0_14.index t = ![t.val, 0] ∧ win0_15.index t = ![t.val, 0] ∧ win0_16.index t = ![t.val, 0])
    ∧ (win0_0.index t = ![t.val, 0] ∧ win0_1.index t = ![t.val, 0] ∧ win0_4.index t = ![t.val, 0])
    ∧ (win0_2.index t = ![0, 0] ∧ win0_3.index t = ![0, 0] ∧ win0_11.index t = ![0, 0] ∧ win0_12.index t = ![0, 0] ∧ win0_13.index t = ![0, 0])
    ∧ (win0_5.index t = ![t.val / 8, 0, 0] ∧ win0_7.index t = ![t.val / 8, 0, 0] ∧ win0_9.index t = ![t.val / 8, 0, 0])
    ∧ (win0_6.index t = ![8, 0, 0] ∧ win0_8.index t = ![8, 0, 0] ∧ win0_10.index t = ![8, 0, 0]) :=
  (by decide +kernel : ∀ t : Fin grid0.N, _)

/-- The first mixer's weights. -/
theorem weights_first (c : Dev nD) (k : Fin 1024) (n : Fin 2048) :
    (V m c main_v2 : Vec Ideal S1024x2048 .bf16) (ix2 k n) = (m ((c : Thread nD τ).loc main_arg2) : Vec Ideal S1x2048x2048 .f32) (ix3 0 ⟨k.val, by omega⟩ n) := by
  unfold V
  after_reads_at

/-- The second mixer's weights. -/
theorem weights_second (c : Dev nD) (k : Fin 1024) (n : Fin 2048) :
    (V m c main_v3 : Vec Ideal S1024x2048 .bf16) (ix2 k n)
      = (m ((c : Thread nD τ).loc main_arg2) : Vec Ideal S1x2048x2048 .f32) (ix3 0 ⟨1024 + k.val, by omega⟩ n) := by
  unfold V
  after_reads_at

/-- The norm's weight times one plus the scale. -/
theorem scales (c : Dev nD) (i : Fin 9) (n : Fin 2048) :
    (V m c main_v10 : Vec Ideal S9x1x2048 .f32) (ix3 i 0 n)
      = Cert.Out.factor ((m ((c : Thread nD τ).loc main_arg7) : Vec Ideal S2x2048 .f32) (ix2 1 n))
          ((m ((c : Thread nD τ).loc main_arg5) : Vec Ideal S9x1x2048 .f32) (ix3 i 0 n)) := by
  unfold Cert.Out.factor
  rw [← Cert.Out.one_bits]
  unfold V
  after_reads_at

/-- The router's table of weights. -/
theorem router_table (c : Dev nD) (k : Fin 2048) (j : Fin 128) :
    (V m c main_v24 : Vec Ideal S2048x128 .bf16) (ix2 k j)
      = Cert.Out.table (fun j => (m ((c : Thread nD τ).loc main_arg8) : Vec Ideal S2x2048x4 .f32) (ix3 1 k j))
          (fun j => (m ((c : Thread nD τ).loc main_arg10) : Vec Ideal S2x2048x32 .f32) (ix3 1 k j)) j := by
  unfold V
  after_reads_at
  exact Cert.Out.table_cols _ _ _ (fun _ => Ideal.ofBits_zero_f32) _ _ rfl rfl _ _ k j

/-- The table's lower half: the table less itself. -/
theorem router_low (c : Dev nD) (k : Fin 2048) (j : Fin 128) :
    (V m c main_v27 : Vec Ideal S2048x128 .bf16) (ix2 k j)
      = (fun t : EReal => t - t) (Cert.Out.table (fun j => (m ((c : Thread nD τ).loc main_arg8) : Vec Ideal S2x2048x4 .f32) (ix3 1 k j))
          (fun j => (m ((c : Thread nD τ).loc main_arg10) : Vec Ideal S2x2048x32 .f32) (ix3 1 k j)) j) := by
  refine Eq.trans ?_ (congrArg (fun t : EReal => t - t) (router_table m c k j))
  unfold V
  after_reads_at

/-- The router's biases. -/
theorem router_bias (c : Dev nD) (j : Fin 128) :
    (V m c main_v36 : Vec Ideal S1x128 .f32) (ix2 0 j)
      = Cert.Out.table (fun j => (m ((c : Thread nD τ).loc main_arg9) : Vec Ideal S2x4 .f32) (ix2 1 j))
          (fun j => (m ((c : Thread nD τ).loc main_arg11) : Vec Ideal S2x32 .f32) (ix2 1 j)) j := by
  unfold V
  after_reads_at
  refine Cert.Out.table_row _ _ _ (fun _ => Ideal.ofBits_zero_f32) _ _ ?_ ?_ ?_ ?_ _ _ j
  · after_reads_at
  · after_reads_at
  · after_reads_at
  · after_reads_at

/-! ## The blocks a point reads -/

theorem block_first (c : Dev nD) (t : Fin cfg0.N) (r : Fin 288) (k : Fin 1024) :
    (iblk m c 0 t : Vec Ideal S288x1024 .bf16) (ix2 r k)
      = (m ((c : Thread nD τ).loc main_arg0) : Vec Ideal S18432x1024 .bf16) (ix2 (Cert.Out.blockRow t r) k) := by
  unfold Cert.Out.blockRow
  blk_point [iblk, V, idx t]

theorem block_second (c : Dev nD) (t : Fin cfg0.N) (r : Fin 288) (k : Fin 1024) :
    (iblk m c 1 t : Vec Ideal S288x1024 .bf16) (ix2 r k)
      = (m ((c : Thread nD τ).loc main_arg1) : Vec Ideal S18432x1024 .bf16) (ix2 (Cert.Out.blockRow t r) k) := by
  unfold Cert.Out.blockRow
  blk_point [iblk, V, idx t]

theorem block_tokens (c : Dev nD) (t : Fin cfg0.N) (r : Fin 288) (k : Fin 2048) :
    (iblk m c 4 t : Vec Ideal S288x2048 .f32) (ix2 r k)
      = (m ((c : Thread nD τ).loc main_arg3) : Vec Ideal S18432x2048 .f32) (ix2 (Cert.Out.blockRow t r) k) := by
  unfold Cert.Out.blockRow
  blk_point [iblk, V, idx t]

theorem block_gate (c : Dev nD) (t : Fin cfg0.N) (n : Fin 2048) :
    (iblk m c 5 t : Vec Ideal S1x1x2048 .f32) (ix3 0 0 n) = (m ((c : Thread nD τ).loc main_arg4) : Vec Ideal S9x1x2048 .f32) (ix3 ⟨t.val / 8, Cert.Out.image_lt t⟩ 0 n) := by
  blk_point [iblk, V, idx t]

theorem block_gate_context (c : Dev nD) (t : Fin cfg0.N) (n : Fin 2048) :
    (iblk m c 6 t : Vec Ideal S1x1x2048 .f32) (ix3 0 0 n) = (m ((c : Thread nD τ).loc main_arg4) : Vec Ideal S9x1x2048 .f32) (ix3 8 0 n) := by
  blk_point [iblk, V, idx t]

theorem block_shift (c : Dev nD) (t : Fin cfg0.N) (n : Fin 2048) :
    (iblk m c 9 t : Vec Ideal S1x1x2048 .f32) (ix3 0 0 n) = (m ((c : Thread nD τ).loc main_arg6) : Vec Ideal S9x1x2048 .f32) (ix3 ⟨t.val / 8, Cert.Out.image_lt t⟩ 0 n) := by
  blk_point [iblk, V, idx t]

theorem block_shift_context (c : Dev nD) (t : Fin cfg0.N) (n : Fin 2048) :
    (iblk m c 10 t : Vec Ideal S1x1x2048 .f32) (ix3 0 0 n) = (m ((c : Thread nD τ).loc main_arg6) : Vec Ideal S9x1x2048 .f32) (ix3 8 0 n) := by
  blk_point [iblk, V, idx t]

theorem block_factor (c : Dev nD) (t : Fin cfg0.N) (n : Fin 2048) :
    (iblk m c 7 t : Vec Ideal S1x1x2048 .f32) (ix3 0 0 n) = Cert.Out.factor ((m ((c : Thread nD τ).loc main_arg7) : Vec Ideal S2x2048 .f32) (ix2 1 n))
      ((m ((c : Thread nD τ).loc main_arg5) : Vec Ideal S9x1x2048 .f32) (ix3 ⟨t.val / 8, Cert.Out.image_lt t⟩ 0 n)) := by
  refine Eq.trans ?_ (scales m c ⟨t.val / 8, Cert.Out.image_lt t⟩ n)
  blk_point [iblk, idx t]

theorem block_factor_context (c : Dev nD) (t : Fin cfg0.N) (n : Fin 2048) :
    (iblk m c 8 t : Vec Ideal S1x1x2048 .f32) (ix3 0 0 n) = Cert.Out.factor ((m ((c : Thread nD τ).loc main_arg7) : Vec Ideal S2x2048 .f32) (ix2 1 n))
      ((m ((c : Thread nD τ).loc main_arg5) : Vec Ideal S9x1x2048 .f32) (ix3 8 0 n)) := by
  refine Eq.trans ?_ (scales m c 8 n)
  blk_point [iblk, idx t]

theorem block_weights_first (c : Dev nD) (t : Fin cfg0.N) (k : Fin 1024) (n : Fin 2048) :
    (iblk m c 2 t : Vec Ideal S1024x2048 .bf16) (ix2 k n)
      = (m ((c : Thread nD τ).loc main_arg2) : Vec Ideal S1x2048x2048 .f32) (ix3 0 ⟨k.val, by omega⟩ n) := by
  refine Eq.trans ?_ (weights_first m c k n)
  blk_point [iblk, idx t]

theorem block_weights_second (c : Dev nD) (t : Fin cfg0.N) (k : Fin 1024) (n : Fin 2048) :
    (iblk m c 3 t : Vec Ideal S1024x2048 .bf16) (ix2 k n)
      = (m ((c : Thread nD τ).loc main_arg2) : Vec Ideal S1x2048x2048 .f32) (ix3 0 ⟨1024 + k.val, by omega⟩ n) := by
  refine Eq.trans ?_ (weights_second m c k n)
  blk_point [iblk, idx t]

/-- A block of the router's table is the whole table. -/
theorem table_read (t : Fin cfg0.N) (A : Vec Ideal S2048x128 .bf16) (k : Fin 2048) (j : Fin 128) :
    (((cfg0.win 11).blk t).view.read (Elt Ideal) A : Vec Ideal S2048x128 .bf16) (ix2 k j) = A (ix2 k j) := by
  blk_point [idx t]

/-- So is a block of its lower half. -/
theorem low_read (t : Fin cfg0.N) (A : Vec Ideal S2048x128 .bf16) (k : Fin 2048) (j : Fin 128) :
    (((cfg0.win 12).blk t).view.read (Elt Ideal) A : Vec Ideal S2048x128 .bf16) (ix2 k j) = A (ix2 k j) := by
  blk_point [idx t]

theorem block_table (c : Dev nD) (t : Fin cfg0.N) (k : Fin 2048) (j : Fin 128) :
    (iblk m c 11 t : Vec Ideal S2048x128 .bf16) (ix2 k j)
      = Cert.Out.table (fun j => (m ((c : Thread nD τ).loc main_arg8) : Vec Ideal S2x2048x4 .f32) (ix3 1 k j))
          (fun j => (m ((c : Thread nD τ).loc main_arg10) : Vec Ideal S2x2048x32 .f32) (ix3 1 k j)) j :=
  (table_read t (V m c main_v24) k j).trans (router_table m c k j)

theorem block_low (c : Dev nD) (t : Fin cfg0.N) (k : Fin 2048) (j : Fin 128) :
    (iblk m c 12 t : Vec Ideal S2048x128 .bf16) (ix2 k j)
      = (fun t : EReal => t - t) (Cert.Out.table (fun j => (m ((c : Thread nD τ).loc main_arg8) : Vec Ideal S2x2048x4 .f32) (ix3 1 k j))
          (fun j => (m ((c : Thread nD τ).loc main_arg10) : Vec Ideal S2x2048x32 .f32) (ix3 1 k j)) j) :=
  (low_read t (V m c main_v27) k j).trans (router_low m c k j)

theorem block_bias (c : Dev nD) (t : Fin cfg0.N) (j : Fin 128) :
    (iblk m c 13 t : Vec Ideal S1x128 .f32) (ix2 0 j)
      = Cert.Out.table (fun j => (m ((c : Thread nD τ).loc main_arg9) : Vec Ideal S2x4 .f32) (ix2 1 j))
          (fun j => (m ((c : Thread nD τ).loc main_arg11) : Vec Ideal S2x32 .f32) (ix2 1 j)) j := by
  refine Eq.trans ?_ (router_bias m c j)
  blk_point [iblk, idx t]

/-! ## The results -/

/-- The tokens, of the call's arrays. -/
def TOK (c : Dev nD) : Vec Ideal S18432x2048 .f32 := fun j =>
  Cert.Out.rowTok (Cert.Out.prodOdd (m ((c : Thread nD τ).loc main_arg0)) (m ((c : Thread nD τ).loc main_arg1)) (m ((c : Thread nD τ).loc main_arg2)))
    (m ((c : Thread nD τ).loc main_arg3)) (m ((c : Thread nD τ).loc main_arg4)) (j 0) (j 1)

/-- The modulated tokens, of the call's arrays. -/
def HID (c : Dev nD) : Vec Ideal S18432x2048 .f32 := fun j =>
  Cert.Out.rowHid 1 (Cert.Out.prodOdd (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (j 0) (j 1)

/-- The logits, of the call's arrays. -/
def LOGITS (c : Dev nD) : Vec Ideal S18432x128 .f32 := fun j =>
  Cert.Out.rowLogit 1 (Cert.Out.prodOdd (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) (j 1)

/-- Where a block's entry lies in the result. -/
theorem place_tok (t : Fin cfg0.N) (r : Fin 288) (n : Fin 2048) :
    ((View.whole main_v37_0).slice (win0_14.rect t)).emb (ix2 r n) 0 = Cert.Out.blockRow t r ∧ ((View.whole main_v37_0).slice (win0_14.rect t)).emb (ix2 r n) 1 = n := by
  unfold Cert.Out.blockRow
  constructor
  · apply Fin.ext
    blk_point [idx t]
  · apply Fin.ext
    blk_point [idx t]

/-- Where a block's entry lies in the result. -/
theorem place_hid (t : Fin cfg0.N) (r : Fin 288) (n : Fin 2048) :
    ((View.whole main_v37_1).slice (win0_15.rect t)).emb (ix2 r n) 0 = Cert.Out.blockRow t r ∧ ((View.whole main_v37_1).slice (win0_15.rect t)).emb (ix2 r n) 1 = n := by
  unfold Cert.Out.blockRow
  constructor
  · apply Fin.ext
    blk_point [idx t]
  · apply Fin.ext
    blk_point [idx t]

/-- Where a block's entry lies in the result. -/
theorem place_logits (t : Fin cfg0.N) (r : Fin 288) (n : Fin 128) :
    ((View.whole main_v37_2).slice (win0_16.rect t)).emb (ix2 r n) 0 = Cert.Out.blockRow t r ∧ ((View.whole main_v37_2).slice (win0_16.rect t)).emb (ix2 r n) 1 = n := by
  unfold Cert.Out.blockRow
  constructor
  · apply Fin.ext
    blk_point [idx t]
  · apply Fin.ext
    blk_point [idx t]

/-- The first result after the run. -/
theorem final_tok (c : Dev nD) : (dats m 0 c).arrAt 14 cfg0.N = TOK m c := by
  refine (dats m 0 c).arrAt_eq_of_covers 14 _ (by decide +kernel) fun t hf y => ?_
  blk_simp
  rw [after0_14]
  unfold_out out0_14
  frame_out
  idx_vars y
  unfold TOK
  beta_reduce
  rw [(place_tok t y0 y1).1, (place_tok t y0 y1).2]
  exact tok_point t y0 (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4))
    (block_first m c t y0) (block_second m c t y0) (block_weights_first m c t) (block_weights_second m c t)
    (block_tokens m c t y0) (block_gate m c t) (block_gate_context m c t) y1

/-- The second result after the run. -/
theorem final_hid (c : Dev nD) : (dats m 0 c).arrAt 15 cfg0.N = HID m c := by
  refine (dats m 0 c).arrAt_eq_of_covers 15 _ (by decide +kernel) fun t hf y => ?_
  blk_simp
  rw [after0_15]
  unfold_out out0_15
  frame_out
  idx_vars y
  unfold HID
  beta_reduce
  rw [(place_hid t y0 y1).1, (place_hid t y0 y1).2]
  exact hid_point t y0 (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (block_first m c t y0) (block_second m c t y0) (block_weights_first m c t) (block_weights_second m c t)
    (block_tokens m c t y0) (block_gate m c t) (block_gate_context m c t) (block_factor m c t) (block_factor_context m c t) (block_shift m c t)
    (block_shift_context m c t) y1

/-- The third result after the run. -/
theorem final_logits (c : Dev nD)
    (f5 : ∀ i, Cert.Out.IsReal ((m ((c : Thread nD τ).loc main_arg5) : Vec Ideal S9x1x2048 .f32) i))
    (f6 : ∀ i, Cert.Out.IsReal ((m ((c : Thread nD τ).loc main_arg6) : Vec Ideal S9x1x2048 .f32) i))
    (f7 : ∀ i, Cert.Out.IsReal ((m ((c : Thread nD τ).loc main_arg7) : Vec Ideal S2x2048 .f32) i))
    (f8 : ∀ i, Cert.Out.IsReal ((m ((c : Thread nD τ).loc main_arg8) : Vec Ideal S2x2048x4 .f32) i))
    (f10 : ∀ i, Cert.Out.IsReal ((m ((c : Thread nD τ).loc main_arg10) : Vec Ideal S2x2048x32 .f32) i)) : (dats m 0 c).arrAt 16 cfg0.N = LOGITS m c := by
  refine (dats m 0 c).arrAt_eq_of_covers 16 _ (by decide +kernel) fun t hf y => ?_
  blk_simp
  rw [after0_16]
  unfold_out out0_16
  frame_out
  idx_vars y
  unfold LOGITS
  beta_reduce
  rw [(place_logits t y0 y1).1, (place_logits t y0 y1).2]
  exact logit_point t y0 (iblk m c 0 t) (iblk m c 1 t) (iblk m c 2 t) (iblk m c 3 t) (iblk m c 4 t) (iblk m c 5 t) (iblk m c 6 t) (iblk m c 7 t) (iblk m c 8 t) (iblk m c 9 t) (iblk m c 10 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (block_first m c t y0) (block_second m c t y0) (block_weights_first m c t) (block_weights_second m c t)
    (block_tokens m c t y0) (block_gate m c t) (block_gate_context m c t) (block_factor m c t) (block_factor_context m c t) (block_shift m c t)
    (block_shift_context m c t)
    (iblk m c 11 t) (iblk m c 12 t) (iblk m c 13 t) (m ((c : Thread nD τ).loc main_arg8)) (m ((c : Thread nD τ).loc main_arg9)) (m ((c : Thread nD τ).loc main_arg10)) (m ((c : Thread nD τ).loc main_arg11))
    (block_table m c t) (block_low m c t) (block_bias m c t) f5 f6 f7 f8 f10 y1

end Cert.Kernel5Ideal.Out

end
-- ==== Proof.OutOddFinal.lean ====
module

public import proofs.«01_k».proof.Defs
public import proofs.«01_k».proof.Proof.Gen.Kernel5Ideal.Value
public import proofs.«01_k».proof.Proof.Gen.Reference5Ideal.Run
public import proofs.«01_k».proof.Proof.OutOddRef
public import proofs.«01_k».proof.Proof.OutOdd
public import proofs.«01_k».proof.Proof.Gen.Pre_out_odd_finite
public import Idealize.ShloMosaic.Lib.Claim

@[expose] public section

set_option maxRecDepth 16384

noncomputable section

open Idealize.ShloMosaic Idealize.ShloMosaic.TcCoe Idealize.SL.Sem

namespace Cert.Reference5Ideal.Out

open Cert.Reference5Ideal Cert.Reference5Ideal.Gen Cert.Reference5Ideal.Read

/-- The first result, of arrays equal to the arguments. -/
theorem tok_eq {x0 a0 : Vec Ideal S18432x1024 .bf16} {x1 a1 : Vec Ideal S18432x1024 .bf16} {x2 a2 : Vec Ideal S1x2048x2048 .f32} {x3 a3 : Vec Ideal S18432x2048 .f32} {x4 a4 : Vec Ideal S9x1x2048 .f32}
    (h0 : x0 = a0) (h1 : x1 = a1) (h2 : x2 = a2) (h3 : x3 = a3) (h4 : x4 = a4) :
    val_main_v85 (F := Ideal) x0 x1 x2 x3 x4 = (fun j => Cert.Out.rowTok (Cert.Out.prodOdd a0 a1 a2) a3 a4 (j 0) (j 1) : Vec Ideal S18432x2048 .f32) := by
  subst h0 h1 h2 h3 h4
  funext j
  idx_vars j
  exact tok_apply x0 x1 x2 x3 x4 j0 j1

/-- The second result, of arrays equal to the arguments. -/
theorem hid_eq {x0 a0 : Vec Ideal S18432x1024 .bf16} {x1 a1 : Vec Ideal S18432x1024 .bf16} {x2 a2 : Vec Ideal S1x2048x2048 .f32} {x3 a3 : Vec Ideal S18432x2048 .f32} {x4 a4 : Vec Ideal S9x1x2048 .f32} {x5 a5 : Vec Ideal S9x1x2048 .f32} {x6 a6 : Vec Ideal S9x1x2048 .f32} {x7 a7 : Vec Ideal S2x2048 .f32}
    (h0 : x0 = a0) (h1 : x1 = a1) (h2 : x2 = a2) (h3 : x3 = a3) (h4 : x4 = a4) (h5 : x5 = a5) (h6 : x6 = a6) (h7 : x7 = a7) :
    val_main_v65 (F := Ideal) x0 x1 x2 x3 x4 x5 x6 x7 = (fun j => Cert.Out.rowHid 1 (Cert.Out.prodOdd a0 a1 a2) a3 a4 a5 a6 a7 (j 0) (j 1) : Vec Ideal S18432x2048 .f32) := by
  subst h0 h1 h2 h3 h4 h5 h6 h7
  funext j
  idx_vars j
  exact hid_apply x0 x1 x2 x3 x4 x5 x6 x7 j0 j1

/-- The third result, of arrays equal to the arguments. -/
theorem logits_eq {x0 a0 : Vec Ideal S18432x1024 .bf16} {x1 a1 : Vec Ideal S18432x1024 .bf16} {x2 a2 : Vec Ideal S1x2048x2048 .f32} {x3 a3 : Vec Ideal S18432x2048 .f32} {x4 a4 : Vec Ideal S9x1x2048 .f32} {x5 a5 : Vec Ideal S9x1x2048 .f32} {x6 a6 : Vec Ideal S9x1x2048 .f32} {x7 a7 : Vec Ideal S2x2048 .f32} {x8 a8 : Vec Ideal S2x2048x4 .f32} {x9 a9 : Vec Ideal S2x4 .f32} {x10 a10 : Vec Ideal S2x2048x32 .f32} {x11 a11 : Vec Ideal S2x32 .f32}
    (h0 : x0 = a0) (h1 : x1 = a1) (h2 : x2 = a2) (h3 : x3 = a3) (h4 : x4 = a4) (h5 : x5 = a5) (h6 : x6 = a6) (h7 : x7 = a7) (h8 : x8 = a8) (h9 : x9 = a9) (h10 : x10 = a10) (h11 : x11 = a11) :
    val_main_v83 (F := Ideal) x0 x1 x2 x3 x4 x5 x6 x7 x8 x9 x10 x11 = (fun j => Cert.Out.rowLogit 1 (Cert.Out.prodOdd a0 a1 a2) a3 a4 a5 a6 a7 a8 a9 a10 a11 (j 0) (j 1) : Vec Ideal S18432x128 .f32) := by
  subst h0 h1 h2 h3 h4 h5 h6 h7 h8 h9 h10 h11
  funext j
  idx_vars j
  exact logits_apply x0 x1 x2 x3 x4 x5 x6 x7 x8 x9 x10 x11 j0 j1

end Cert.Reference5Ideal.Out

namespace Cert.Proof.OutOdd

/-- With exact arithmetic and finite weights the odd layer's output kernel leaves what the plain computation leaves. -/
theorem algebraic : Cert.algebraic_Kernel5Ideal_Reference5Ideal_pre_out_odd_finite := by
  pair_intro
  · run_from Cert.Kernel5Ideal.Value.run_blocks m g
  · run_from Cert.Reference5Ideal.Value.run m' g'
    · refine Eq.trans ?_ (Cert.Kernel5Ideal.Out.final_tok m c).symm
      exact Cert.Reference5Ideal.Out.tok_eq
        (Eq.refl (m ((c.tc : Thread Cert.Kernel5Ideal.nD Cert.Kernel5Ideal.τ).loc Cert.Kernel5Ideal.main_arg0))) (Eq.refl (m ((c.tc : Thread Cert.Kernel5Ideal.nD Cert.Kernel5Ideal.τ).loc Cert.Kernel5Ideal.main_arg1))) (Eq.refl (m ((c.tc : Thread Cert.Kernel5Ideal.nD Cert.Kernel5Ideal.τ).loc Cert.Kernel5Ideal.main_arg2))) (Eq.refl (m ((c.tc : Thread Cert.Kernel5Ideal.nD Cert.Kernel5Ideal.τ).loc Cert.Kernel5Ideal.main_arg3))) (hagree c).2.2.2.2.1
    · refine Eq.trans ?_ (Cert.Kernel5Ideal.Out.final_hid m c).symm
      refine (Cert.Reference5Ideal.Read.val_main_v65_eq m' c).trans ?_
      exact Cert.Reference5Ideal.Out.hid_eq
        (hagree c).1 (hagree c).2.1 (hagree c).2.2.1 (hagree c).2.2.2.1 (hagree c).2.2.2.2.1 (hagree c).2.2.2.2.2.1 (hagree c).2.2.2.2.2.2.1 (hagree c).2.2.2.2.2.2.2.1
    · refine Eq.trans ?_ (Cert.Kernel5Ideal.Out.final_logits m c
        (Cert.Out.real_of_test (m ((c.tc : Thread Cert.Kernel5Ideal.nD Cert.Kernel5Ideal.τ).loc Cert.Kernel5Ideal.main_arg5)) _ (fun _ => rfl) (hpre c).1)
        (Cert.Out.real_of_test (m ((c.tc : Thread Cert.Kernel5Ideal.nD Cert.Kernel5Ideal.τ).loc Cert.Kernel5Ideal.main_arg6)) _ (fun _ => rfl) (hpre c).2.1)
        (Cert.Out.real_of_test (m ((c.tc : Thread Cert.Kernel5Ideal.nD Cert.Kernel5Ideal.τ).loc Cert.Kernel5Ideal.main_arg7)) _ (fun _ => rfl) (hpre c).2.2.1)
        (Cert.Out.real_of_test (m ((c.tc : Thread Cert.Kernel5Ideal.nD Cert.Kernel5Ideal.τ).loc Cert.Kernel5Ideal.main_arg8)) _ (fun _ => rfl) (hpre c).2.2.2.1)
        (Cert.Out.real_of_test (m ((c.tc : Thread Cert.Kernel5Ideal.nD Cert.Kernel5Ideal.τ).loc Cert.Kernel5Ideal.main_arg10)) _ (fun _ => rfl) (hpre c).2.2.2.2)).symm
      refine (Cert.Reference5Ideal.Read.val_main_v83_eq m' c).trans ?_
      exact Cert.Reference5Ideal.Out.logits_eq
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2

end Cert.Proof.OutOdd

end
-- ==== Proof.lean ====
/- Proves `Cert.Claim` (Defs.lean): the frames come from the generated modules, the values from `Proof/DiffFinal.lean`
   (the differential attention), `Proof/ProjEven.lean`, `Proof/ProjOdd.lean` (the two input projections) and
   `Proof/OutEvenFinal.lean`, `Proof/OutOddFinal.lean` (the two output projections). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_out_even_finite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_out_odd_finite
public import proofs.«01_k».proof.Proof.Gen.Pre_finite
public import proofs.«01_k».proof.Proof.DiffFinal
public import proofs.«01_k».proof.Proof.ProjEven
public import proofs.«01_k».proof.Proof.ProjOdd
public import proofs.«01_k».proof.Proof.OutEvenFinal
public import proofs.«01_k».proof.Proof.OutOddFinal
public import Idealize.ShloMosaic.Lib.Quiescent
public import Idealize.ShloMosaic.Adequacy
public import Idealize.ShloMosaic.Init

@[expose] public section

noncomputable section

namespace Cert.Proof

open Idealize.ShloMosaic Idealize.SL.Sem

/-- The plain attention runs, keeps its arguments and leaves every counter at zero: it declares none. -/
theorem run_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩) (Cert.ReferenceIdeal.Value.run (F := Ideal) m g)

/-- The plain even layer's product runs, keeps its arguments and leaves every counter at zero: it declares none. -/
theorem run_Reference2Ideal (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run Cert.Reference2Ideal.defs _ _).mono (fun r h => ⟨fun c => (h c).2, sem_eq_zero_of_no_sems (by decide) r.2⟩) (Cert.Reference2Ideal.Value.run (F := Ideal) m g)

/-- The plain odd layer's product runs, keeps its arguments and leaves every counter at zero: it declares none. -/
theorem run_Reference3Ideal (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, sem_eq_zero_of_no_sems (by decide) r.2⟩) (Cert.Reference3Ideal.Value.run (F := Ideal) m g)

/-- The plain even layer's output runs, keeps its arguments and leaves every counter at zero: it declares none. -/
theorem run_Reference4Ideal (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0) :=
  (θ_run Cert.Reference4Ideal.defs _ _).mono (fun r h => ⟨fun c => (h c).2.2.2, sem_eq_zero_of_no_sems (by decide) r.2⟩) (Cert.Reference4Ideal.Value.run (F := Ideal) m g)

/-- The plain odd layer's output runs, keeps its arguments and leaves every counter at zero: it declares none. -/
theorem run_Reference5Ideal (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0) :=
  (θ_run Cert.Reference5Ideal.defs _ _).mono (fun r h => ⟨fun c => (h c).2.2.2, sem_eq_zero_of_no_sems (by decide) r.2⟩) (Cert.Reference5Ideal.Value.run (F := Ideal) m g)

/-- The whole claim: the frames, the idealization's one rewrite, and the five value claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Pre_finite.Gen.facts, Cert.Pre_out_even_finite.Gen.facts, Cert.Pre_out_odd_finite.Gen.facts,
  fun m g _ => Cert.Kernel.Gen.frame m g,
  fun m g _ => Cert.KernelIdeal.Gen.frame m g,
  fun m g _ => Cert.KernelIdeal.Gen.frame m g,
  fun m g _ => run_ReferenceIdeal m g,
  fun m g _ => run_ReferenceIdeal m g,
  fun m g _ => Cert.Kernel2.Gen.frame m g,
  fun m g _ => Cert.Kernel2Ideal.Gen.frame m g,
  fun m g _ => run_Reference2Ideal m g,
  fun m g _ => Cert.Kernel3.Gen.frame m g,
  fun m g _ => Cert.Kernel3Ideal.Gen.frame m g,
  fun m g _ => run_Reference3Ideal m g,
  fun m g _ => Cert.Kernel4.Gen.frame m g,
  fun m g _ => Cert.Kernel4Ideal.Gen.frame m g,
  fun m g _ => Cert.Kernel4Ideal.Gen.frame m g,
  fun m g _ => run_Reference4Ideal m g,
  fun m g _ => run_Reference4Ideal m g,
  fun m g _ => Cert.Kernel5.Gen.frame m g,
  fun m g _ => Cert.Kernel5Ideal.Gen.frame m g,
  fun m g _ => Cert.Kernel5Ideal.Gen.frame m g,
  fun m g _ => run_Reference5Ideal m g,
  fun m g _ => run_Reference5Ideal m g,
  IdealRules.named_const.statement Cert.KernelIdeal.κ "scale_log2e" .f32 0x3E38AA3B#32 _ rfl,
  Cert.Proof.Diff.algebraic,
  trivial,
  Cert.Proof.ProjEven.algebraic,
  trivial,
  Cert.Proof.ProjOdd.algebraic,
  trivial,
  Cert.Proof.OutEven.algebraic,
  trivial,
  Cert.Proof.OutOdd.algebraic⟩

end Cert.Proof

end
